-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_finite [hPre_gamma_finite : Cert.Pre_gamma_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_gamma_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_finite [hPre_gamma_finite : Cert.Pre_gamma_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_gamma_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gamma_finite [hKernelIdeal : Cert.KernelIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gamma_finite [hReferenceIdeal : Cert.ReferenceIdeal.Facts] [hPre_gamma_finite : Cert.Pre_gamma_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_d" .f32 0x39124925#32 ((1 / 7168 : ℝ) : EReal)

def algebraic_KernelIdeal_ReferenceIdeal_pre_gamma_finite [hKernelIdeal : Cert.KernelIdeal.Facts] [hReferenceIdeal : Cert.ReferenceIdeal.Facts] [hPre_gamma_finite : Cert.Pre_gamma_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_gamma_finite : Cert.Pre_gamma_finite.Facts),
    quiescent_Kernel (hKernel := hKernel)
    ∧ quiescent_KernelIdeal (hKernelIdeal := hKernelIdeal)
    ∧ quiescent_KernelIdeal_pre_gamma_finite (hKernelIdeal := hKernelIdeal) (hPre_gamma_finite := hPre_gamma_finite)
    ∧ quiescent_ReferenceIdeal (hReferenceIdeal := hReferenceIdeal)
    ∧ quiescent_ReferenceIdeal_pre_gamma_finite (hReferenceIdeal := hReferenceIdeal) (hPre_gamma_finite := hPre_gamma_finite)
    ∧ preserves_Kernel_KernelIdeal
    ∧ algebraic_KernelIdeal_ReferenceIdeal_pre_gamma_finite (hKernelIdeal := hKernelIdeal) (hReferenceIdeal := hReferenceIdeal) (hPre_gamma_finite := hPre_gamma_finite)
-- ==== Pre_gamma_finite.lean ====
abbrev S3x8192x8192 : Shape := ⟨3, ![3, 8192, 8192]⟩
abbrev S3x8192x1 : Shape := ⟨3, ![3, 8192, 1]⟩
abbrev S8192x7168 : Shape := ⟨2, ![8192, 7168]⟩
abbrev S64x56 : Shape := ⟨2, ![64, 56]⟩
abbrev S3x8192x7168 : Shape := ⟨3, ![3, 8192, 7168]⟩
abbrev S7168 : Shape := ⟨1, ![7168]⟩
abbrev S_ : Shape := ⟨0, ![]⟩

class Facts : Prop where
  bcast_S_S7168 : S_.BroadcastsInDim S7168 (![] : Fin 0 → Fin S7168.rank)

variable [Facts]

def fn {F : FTy → Type} [FloatOps F] (main_arg0 : FVec F S3x8192x8192 .fp8e4m3) (main_arg1 : FVec F S3x8192x1 .f32) (main_arg2 : FVec F S8192x7168 .fp8e4m3) (main_arg3 : FVec F S64x56 .f32) (main_arg4 : FVec F S3x8192x7168 .bf16) (main_arg5 : FVec F S7168 .bf16) : IVec S7168 1 × IVec S7168 1 :=
  let main_cst : FVec F S_ .bf16 := constant S_ .bf16 0x7F7F#16
  let main_v0 : FVec F S7168 .bf16 := broadcastInDim S7168 ![] bcast_S_S7168 main_cst
  let main_v1 : IVec S7168 1 := cmpf .ole main_arg5 main_v0
  let main_cst_0 : FVec F S_ .bf16 := constant S_ .bf16 0xFF7F#16
  let main_v2 : FVec F S7168 .bf16 := broadcastInDim S7168 ![] bcast_S_S7168 main_cst_0
  let main_v3 : IVec S7168 1 := cmpf .oge main_arg5 main_v2
  (main_v1, main_v3)
-- ==== Kernel.lean ====
abbrev S3x8192x8192 : Shape := ⟨3, ![3, 8192, 8192]⟩
abbrev S3x8192x1 : Shape := ⟨3, ![3, 8192, 1]⟩
abbrev S8192x7168 : Shape := ⟨2, ![8192, 7168]⟩
abbrev S64x56 : Shape := ⟨2, ![64, 56]⟩
abbrev S3x8192x7168 : Shape := ⟨3, ![3, 8192, 7168]⟩
abbrev S7168 : Shape := ⟨1, ![7168]⟩
abbrev S64x56x128 : Shape := ⟨3, ![64, 56, 128]⟩
abbrev S64x7168 : Shape := ⟨2, ![64, 7168]⟩
abbrev S24576x8192 : Shape := ⟨2, ![24576, 8192]⟩
abbrev S24576x1 : Shape := ⟨2, ![24576, 1]⟩
abbrev S24576x7168 : Shape := ⟨2, ![24576, 7168]⟩
abbrev S1x7168 : Shape := ⟨2, ![1, 7168]⟩
abbrev S512x8192 : Shape := ⟨2, ![512, 8192]⟩
abbrev S512x1 : Shape := ⟨2, ![512, 1]⟩
abbrev S8192x512 : Shape := ⟨2, ![8192, 512]⟩
abbrev S64x512 : Shape := ⟨2, ![64, 512]⟩
abbrev S512x512 : Shape := ⟨2, ![512, 512]⟩
abbrev S512x7168 : Shape := ⟨2, ![512, 7168]⟩
abbrev S128x512 : Shape := ⟨2, ![128, 512]⟩
abbrev S1x512 : Shape := ⟨2, ![1, 512]⟩
abbrev S32x7168 : Shape := ⟨2, ![32, 7168]⟩
abbrev S32 : Shape := ⟨1, ![32]⟩
abbrev S32x1 : Shape := ⟨2, ![32, 1]⟩

abbrev nBuf : Space → Nat
  | .hbm => 16
  | .vmem => 20
  | .smem => 0
  | _ => 0

abbrev bufTy : (tb : Table) → Fin (tcTables nBuf tb) → BufTy
  | .hbm, ⟨0, _⟩ => ⟨S3x8192x8192, .fp8e4m3⟩
  | .hbm, ⟨1, _⟩ => ⟨S3x8192x1, .f32⟩
  | .hbm, ⟨2, _⟩ => ⟨S8192x7168, .fp8e4m3⟩
  | .hbm, ⟨3, _⟩ => ⟨S64x56, .f32⟩
  | .hbm, ⟨4, _⟩ => ⟨S3x8192x7168, .bf16⟩
  | .hbm, ⟨5, _⟩ => ⟨S7168, .bf16⟩
  | .hbm, ⟨6, _⟩ => ⟨S64x56, .bf16⟩
  | .hbm, ⟨7, _⟩ => ⟨S64x56x128, .bf16⟩
  | .hbm, ⟨8, _⟩ => ⟨S64x7168, .bf16⟩
  | .hbm, ⟨9, _⟩ => ⟨S24576x8192, .fp8e4m3⟩
  | .hbm, ⟨10, _⟩ => ⟨S24576x1, .f32⟩
  | .hbm, ⟨11, _⟩ => ⟨S24576x7168, .bf16⟩
  | .hbm, ⟨12, _⟩ => ⟨S1x7168, .bf16⟩
  | .hbm, ⟨13, _⟩ => ⟨S24576x7168, .bf16⟩
  | .hbm, ⟨14, _⟩ => ⟨S24576x7168, .fp8e4m3⟩
  | .hbm, ⟨15, _⟩ => ⟨S24576x1, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x1, .f32⟩
  | .local _ .vmem, ⟨3, _⟩ => ⟨S512x1, .f32⟩
  | .local _ .vmem, ⟨4, _⟩ => ⟨S8192x512, .fp8e4m3⟩
  | .local _ .vmem, ⟨5, _⟩ => ⟨S8192x512, .fp8e4m3⟩
  | .local _ .vmem, ⟨6, _⟩ => ⟨S64x512, .bf16⟩
  | .local _ .vmem, ⟨7, _⟩ => ⟨S64x512, .bf16⟩
  | .local _ .vmem, ⟨8, _⟩ => ⟨S512x512, .bf16⟩
  | .local _ .vmem, ⟨9, _⟩ => ⟨S512x512, .bf16⟩
  | .local _ .vmem, ⟨10, _⟩ => ⟨S1x7168, .bf16⟩
  | .local _ .vmem, ⟨11, _⟩ => ⟨S512x512, .bf16⟩
  | .local _ .vmem, ⟨12, _⟩ => ⟨S512x512, .bf16⟩
  | .local _ .vmem, ⟨13, _⟩ => ⟨S512x7168, .fp8e4m3⟩
  | .local _ .vmem, ⟨14, _⟩ => ⟨S512x7168, .fp8e4m3⟩
  | .local _ .vmem, ⟨15, _⟩ => ⟨S512x1, .f32⟩
  | .local _ .vmem, ⟨16, _⟩ => ⟨S512x1, .f32⟩
  | .local _ .vmem, ⟨17, _⟩ => ⟨S512x8192, .bf16⟩
  | .local _ .vmem, ⟨18, _⟩ => ⟨S8192x512, .bf16⟩
  | .local _ .vmem, ⟨19, _⟩ => ⟨S512x7168, .bf16⟩
  | _, _ => ⟨S3x8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![48, 14], ![false, false]⟩

def k0_mult1 (i : grid0.Coords) : BitVec 32 :=
  let arg1 : BitVec 32 := BitVec.ofNat 32 (i 1).val
  let c512_i32 : BitVec 32 := 512#32
  let v592 : BitVec 32 := Scalar.muli arg1 c512_i32
  v592
def k0_off1 (i : grid0.Coords) : Fin 2 → Nat :=
  let c0_268 : Index := 0#32
  let arg1 : BitVec 32 := BitVec.ofNat 32 (i 1).val
  let c512_i32 : BitVec 32 := 512#32
  let v592 : BitVec 32 := Scalar.muli arg1 c512_i32
  let v593 : BitVec 32 := v592
  let v594 : Index := Scalar.indexCast v593
  ![0, v594.toNat]
def k0_cond2 (i : grid0.Coords) : BitVec 1 :=
  let arg1 : BitVec 32 := BitVec.ofNat 32 (i 1).val
  let c13_i32 : BitVec 32 := 13#32
  let v598 : BitVec 1 := Scalar.cmpi .eq arg1 c13_i32
  let v599 : BitVec 32 := Scalar.extui v598
  let c0_i32_269 : BitVec 32 := 0#32
  let v600 : BitVec 1 := Scalar.cmpi .ne v599 c0_i32_269
  v600

@[reducible] def k0_t1_loop : Scf.Loop 32 :=
  let c0_i32_270 : BitVec 32 := 0#32
  let c16_i32 : BitVec 32 := 16#32
  let v601 : BitVec 32 := Scalar.addi c0_i32_270 c16_i32
  let c1_i32 : BitVec 32 := 1#32
  ⟨c0_i32_270, v601, c1_i32⟩
def k0_mult2 (k0_t1 : Fin k0_t1_loop.trips) : BitVec 32 :=
  let c0_i32_270 : BitVec 32 := 0#32
  let c1_i32 : BitVec 32 := 1#32
  let arg14 : BitVec 32 := Scf.iv c0_i32_270 c1_i32 k0_t1
  let c32_i32 : BitVec 32 := 32#32
  let v602 : BitVec 32 := Scalar.muli arg14 c32_i32
  v602
def k0_off2 (k0_t1 : Fin k0_t1_loop.trips) : Fin 2 → Nat :=
  let c0_i32_270 : BitVec 32 := 0#32
  let c1_i32 : BitVec 32 := 1#32
  let arg14 : BitVec 32 := Scf.iv c0_i32_270 c1_i32 k0_t1
  let c32_i32 : BitVec 32 := 32#32
  let v602 : BitVec 32 := Scalar.muli arg14 c32_i32
  let v603 : BitVec 32 := v602
  let v604 : Index := Scalar.indexCast v603
  let c0_272 : Index := 0#32
  ![v604.toNat, 0]
def k0_off3 (k0_t1 : Fin k0_t1_loop.trips) : Fin 2 → Nat :=
  let c0_i32_270 : BitVec 32 := 0#32
  let c1_i32 : BitVec 32 := 1#32
  let arg14 : BitVec 32 := Scf.iv c0_i32_270 c1_i32 k0_t1
  let c32_i32 : BitVec 32 := 32#32
  let v602 : BitVec 32 := Scalar.muli arg14 c32_i32
  let v603 : BitVec 32 := v602
  let v712 : Index := Scalar.indexCast v603
  let c0_299 : Index := 0#32
  ![v712.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x7168 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== KernelIdeal.lean ====
variable {F : FTy → Type} [FloatOps F] [Named F]
def κ : String → Option EReal := fun
  | "inv_d" => some ((1 / 7168 : ℝ) : EReal)
  | _ => none
-- ==== ReferenceIdeal.lean ====
abbrev S3x8192x8192 : Shape := ⟨3, ![3, 8192, 8192]⟩
abbrev S3x8192x1 : Shape := ⟨3, ![3, 8192, 1]⟩
abbrev S8192x7168 : Shape := ⟨2, ![8192, 7168]⟩
abbrev S64x56 : Shape := ⟨2, ![64, 56]⟩
abbrev S3x8192x7168 : Shape := ⟨3, ![3, 8192, 7168]⟩
abbrev S7168 : Shape := ⟨1, ![7168]⟩
abbrev S24576x8192 : Shape := ⟨2, ![24576, 8192]⟩
abbrev S24576x1 : Shape := ⟨2, ![24576, 1]⟩
abbrev S24576x7168 : Shape := ⟨2, ![24576, 7168]⟩
abbrev S1x7168 : Shape := ⟨2, ![1, 7168]⟩
abbrev S64x128x56x128 : Shape := ⟨4, ![64, 128, 56, 128]⟩
abbrev S64x1x56x1 : Shape := ⟨4, ![64, 1, 56, 1]⟩
abbrev S24576 : Shape := ⟨1, ![24576]⟩

abbrev nBuf : Space → Nat
  | .hbm => 13
  | .vmem => 9
  | .smem => 0
  | _ => 0

abbrev bufTy : (tb : Table) → Fin (tcTables nBuf tb) → BufTy
  | .hbm, ⟨0, _⟩ => ⟨S3x8192x8192, .fp8e4m3⟩
  | .hbm, ⟨1, _⟩ => ⟨S3x8192x1, .f32⟩
  | .hbm, ⟨2, _⟩ => ⟨S8192x7168, .fp8e4m3⟩
  | .hbm, ⟨3, _⟩ => ⟨S64x56, .f32⟩
  | .hbm, ⟨4, _⟩ => ⟨S3x8192x7168, .bf16⟩
  | .hbm, ⟨5, _⟩ => ⟨S7168, .bf16⟩
  | .hbm, ⟨6, _⟩ => ⟨S24576x8192, .fp8e4m3⟩
  | .hbm, ⟨7, _⟩ => ⟨S24576x1, .f32⟩
  | .hbm, ⟨8, _⟩ => ⟨S24576x7168, .bf16⟩
  | .hbm, ⟨9, _⟩ => ⟨S1x7168, .bf16⟩
  | .hbm, ⟨10, _⟩ => ⟨S24576x7168, .bf16⟩
  | .hbm, ⟨11, _⟩ => ⟨S24576x7168, .fp8e4m3⟩
  | .hbm, ⟨12, _⟩ => ⟨S24576x1, .f32⟩
  | .local _ .vmem, ⟨0, _⟩ => ⟨S24576x8192, .fp8e4m3⟩
  | .local _ .vmem, ⟨1, _⟩ => ⟨S24576x1, .f32⟩
  | .local _ .vmem, ⟨2, _⟩ => ⟨S8192x7168, .fp8e4m3⟩
  | .local _ .vmem, ⟨3, _⟩ => ⟨S64x56, .f32⟩
  | .local _ .vmem, ⟨4, _⟩ => ⟨S24576x7168, .bf16⟩
  | .local _ .vmem, ⟨5, _⟩ => ⟨S1x7168, .bf16⟩
  | .local _ .vmem, ⟨6, _⟩ => ⟨S24576x7168, .bf16⟩
  | .local _ .vmem, ⟨7, _⟩ => ⟨S24576x7168, .fp8e4m3⟩
  | .local _ .vmem, ⟨8, _⟩ => ⟨S24576x1, .f32⟩
  | _, _ => ⟨S3x8192x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S24576x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x56 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S24576x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.BitsPoints.lean ====
/- What the kernel body does at one grid point: the branch conditions over the points, and the buffers it is called with. -/
module

public import proofs.«01_k».proof.Proof.Gen.Kernel.Frame
public import proofs.«01_k».proof.Proof.Gen.Kernel.Loops
public import Idealize.ShloMosaic.Lib.Ring
public import Idealize.ShloMosaic.Lib.WordCmp
public import Idealize.ShloMosaic.Lib.VecWindow

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The condition of the body's first branch: the point is the first of its row block. -/
abbrev cond0_0 (i : grid0.Coords) : Prop := (Scalar.cmpi .ne (Scalar.extui (Scalar.cmpi .eq (BitVec.ofNat 32 (i 1).val) 0#32)) 0#32) = 1#1
/-- The grid coordinates of a point. -/
theorem coords0 (t : Fin cfg0.N) : (grid0.coords t 0).val = t.val / 14 := by
  have ht : t.val < 672 := Nat.lt_of_lt_of_eq t.isLt N_0
  have e0 : (grid0.coords t 0).val = t.val / 14 % 48 := Pipeline.Grid.coords_val t 0 (by decide) rfl
  omega
theorem coords1 (t : Fin cfg0.N) : (grid0.coords t 1).val = t.val % 14 := by
  have e1 : (grid0.coords t 1).val = t.val / 1 % 14 := Pipeline.Grid.coords_val t 1 (by decide) rfl
  omega
theorem hcond0_0 : ∀ t : Fin cfg0.N, cond0_0 (grid0.coords t) ↔ t.val % 14 = 0 :=
  (fun t => by
    have ht : t.val < 672 := Nat.lt_of_lt_of_eq t.isLt N_0
    have e1 : (grid0.coords t 1).val = t.val / 1 % 14 := Pipeline.Grid.coords_val t 1 (by decide) rfl
    simp only [cond0_0, e1]
    word_cmp
   : ∀ t : Fin grid0.N, cond0_0 (grid0.coords t) ↔ t.val % 14 = 0)

/-- The condition of the body's second branch: the point is the last of its row block. -/
abbrev cond0_1 (i : grid0.Coords) : Prop := k0_cond2 i = 1#1
theorem hcond0_1 : ∀ t : Fin cfg0.N, cond0_1 (grid0.coords t) ↔ t.val % 14 = 13 :=
  (fun t => by
    have ht : t.val < 672 := Nat.lt_of_lt_of_eq t.isLt N_0
    have e1 : (grid0.coords t 1).val = t.val / 1 % 14 := Pipeline.Grid.coords_val t 1 (by decide) rfl
    simp only [cond0_1, k0_cond2, e1]
    word_cmp
   : ∀ t : Fin grid0.N, cond0_1 (grid0.coords t) ↔ t.val % 14 = 13)

abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev scM0_0 : Memref sig .tc .vmem S512x8192 .bf16 := Memref.whole cc0_scratch0
abbrev scM0_1 : Memref sig .tc .vmem S8192x512 .bf16 := Memref.whole cc0_scratch1
abbrev scM0_2 : Memref sig .tc .vmem S512x7168 .bf16 := Memref.whole cc0_scratch2

/-- The launch's invariant: the three scratch buffers owned at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Hand

end
-- ==== Proof.BitsHeadA.lean ====
/- The kernel body up to the store of the row block's columns, at the first point of a row block. -/
module

public import proofs.«01_k».proof.Proof.BitsPoints

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body up to the store of the row block's columns, at the first point of a row block: the activation block is cast into its scratch, the weight scratch is filled and the output block is stored. The
    values of the activation scratch and of the output block are the run's finds. -/
@[irreducible] def headA (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : cond0_0 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x13 : Vec F S512x7168 .bf16) :
    Σ' (xb : Vec F S512x8192 .bf16) (v : FVec F S512x512 .bf16), { w : Vec F S512x512 .bf16 //
      ∀ (E : Set ℕ) (K : (Σ' (arg1 : BitVec 32) (v590 : FVec F S512x512 .bf16), Vec F S512x512 .bf16) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg11 fullShare d) ∗ (∃ d, owns (c : Thread nD τ) arg12 fullShare d) ∗ owns (c : Thread nD τ) arg13 fullShare x13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare v ∗ owns (c : Thread nD τ) arg11 fullShare xb ∗ (∃ d, owns (c : Thread nD τ) arg12 fullShare d) ∗ owns (c : Thread nD τ) arg13 fullShare x13) -∗ K ⟨BitVec.ofNat 32 (i 1).val, v, w⟩))
          ⊢ wp frame (wpE (defs₀ (F := F)) Variants.none c none) E (k0_part20 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [k0_part20_eq_skeleton]; unfold k0_part20_skel
    unfold owns
    iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d11, %f11, -, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg13.eq_unread hf13
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; isplitr; swap; · iexact H8
      ipureintro; exact View.read_writes_full _ _ _ _ _
    isplitl [H11]
    · iexists _; isplitr; swap; · iexact H11
      ipureintro; exact View.read_writes_full _ _ _ _ _
    isplitl [H12]
    · iexists _, _; isplitr; swap; · iexact H12
      ipureintro; rfl
    iexists _; isplitr; · ipureintro; exact harg13.read_unread _
    iexact H13

end Cert.Kernel.Hand

end
-- ==== Proof.BitsHeadB.lean ====
/- The kernel body up to the store of the row block's columns, at a point that is not the first of its row block. -/
module

public import proofs.«01_k».proof.Proof.BitsPoints

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The body up to the store of the row block's columns, at a point that is not the first of a row block: the weight scratch is filled and the output block is stored, the activations read from their scratch. The
    values of the output block are the run's finds. -/
@[irreducible] def headB (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) :
    Σ' (v : FVec F S512x512 .bf16), { w : Vec F S512x512 .bf16 //
      ∀ (E : Set ℕ) (K : (Σ' (arg1 : BitVec 32) (v590 : FVec F S512x512 .bf16), Vec F S512x512 .bf16) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare v ∗ owns (c : Thread nD τ) arg11 fullShare x11 ∗ (∃ d, owns (c : Thread nD τ) arg12 fullShare d) ∗ owns (c : Thread nD τ) arg13 fullShare x13) -∗ K ⟨BitVec.ofNat 32 (i 1).val, v, w⟩))
          ⊢ wp frame (wpE (defs₀ (F := F)) Variants.none c none) E (k0_part20 i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [k0_part20_eq_skeleton]; unfold k0_part20_skel
    unfold owns
    iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f11, %hf11, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg13.eq_unread hf13
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; isplitr; swap; · iexact H8
      ipureintro; exact View.read_writes_full _ _ _ _ _
    isplitl [H11]
    · iexists _; isplitr; · ipureintro; exact harg11.read_unread _
      iexact H11
    isplitl [H12]
    · iexists _, _; isplitr; swap; · iexact H12
      ipureintro; rfl
    iexists _; isplitr; · ipureintro; exact harg13.read_unread _
    iexact H13

end Cert.Kernel.Hand

end
-- ==== Proof.BitsLoop.lean ====
/- The counted loop of the kernel body. -/
module

public import proofs.«01_k».proof.Proof.BitsPoints

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

set_option maxHeartbeats 4000000 in
/-- The counted loop of the last point of a row block, over a row block's columns `x13` and the weights `x5` of the norm: the
    pieces it writes into the codes and the scales. -/
@[irreducible] def loopRun (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc1 : cond0_1 i)
    (x5 : Vec F S1x7168 .bf16) (x13 : Vec F S512x7168 .bf16) :
    Σ' (L9 : List (View.Piece (Elt F) S512x7168 .fp8e4m3)), { L10 : List (View.Piece (Elt F) S512x1 .f32) //
      ∀ (E : Set ℕ) (K : Unit → sProp 𝕄),
        iprop(owns (c : Thread nD τ) arg7 fullShare x5 ∗ (∃ d, owns (c : Thread nD τ) arg9 fullShare d) ∗ (∃ d, owns (c : Thread nD τ) arg10 fullShare d) ∗ owns (c : Thread nD τ) arg13 fullShare x13
            ∗ (iprop(owns (c : Thread nD τ) arg7 fullShare x5 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg13 fullShare x13) -∗ K ⟨⟩))
          ⊢ wp frame (wpE (defs₀ (F := F)) Variants.none c none) E (do
              Scf.Loop.for k0_t1_loop (k0_t1_ok i hc1) ⟨⟩ (k0_t1_body (F := F) i arg2 harg2 arg3 harg3 arg4 harg4 arg5 harg5 arg6 harg6 arg7 harg7 arg8 harg8 arg9 harg9 arg10 harg10 arg11 harg11 arg12 harg12 arg13 harg13 hc1)
              pure ⟨⟩) K } := by
  refine ⟨?_, ?_, fun E K => ?run⟩
  case run =>
    unfold owns
    iintro ⟨⟨%f7, %hf7, H7⟩, ⟨%d9, %f9, -, H9⟩, ⟨%d10, %f10, -, H10⟩, ⟨%f13, %hf13, H13⟩, Hk⟩
    obtain rfl := harg7.eq_unread hf7; obtain rfl := harg13.eq_unread hf13
    sl_exec
    sl_step
    iapply Hk
    isplitl [H7]
    · iexists _; isplitr; · ipureintro; exact harg7.read_unread _
      iexact H7
    isplitl [H9]; · iexists f9; iexact H9
    isplitl [H10]; · iexists f10; iexact H10
    iexists _; isplitr; · ipureintro; exact harg13.read_unread _
    iexact H13

end Cert.Kernel.Hand

end
-- ==== Proof.BitsBody.lean ====
/- The whole kernel body at the points of a row block. -/
module

public import proofs.«01_k».proof.Proof.BitsHeadA
public import proofs.«01_k».proof.Proof.BitsHeadB
public import proofs.«01_k».proof.Proof.BitsLoop
public import Idealize.ShloMosaic.Lib.VecWindow
public import Idealize.ShloMosaic.Lib.Pointwise.Reshape

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- The row block's columns of a point start at its second coordinate times 512. -/
theorem k0_off1_eq (i : grid0.Coords) : k0_off1 i = ![0, (i 1).val * 512] := by
  have h : (i 1).val < 14 := (i 1).isLt
  funext a
  match a with
  | ⟨0, _⟩ => rfl
  | ⟨1, _⟩ =>
    show (BitVec.ofNat 32 (i 1).val * 512#32).toNat = (i 1).val * 512
    simp only [BitVec.toNat_mul, BitVec.toNat_ofNat]
    omega
/-- The value stored into the columns is the output block itself. -/
theorem k0_pay1_eq (v : FVec F S512x512 .bf16) : k0_pay1 v = v := by
  unfold k0_pay1; exact Idealize.ShloMosaic.shapeCast_id _ _

set_option maxHeartbeats 1000000 in
/-- The whole body at the first point of a row block: the body casts the activation block into its scratch, fills the weight scratch, stores the output block and the row block's columns. -/
theorem bodyA (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : cond0_0 i) (hc1 : ¬cond0_1 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x13 : Vec F S512x7168 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.1 ∗ (∃ d, owns (c : Thread nD τ) arg9 fullShare d) ∗ (∃ d, owns (c : Thread nD τ) arg10 fullShare d) ∗ owns (c : Thread nD τ) arg11 fullShare (headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).1 ∗ (∃ d, owns (c : Thread nD τ) arg12 fullShare d) ∗ owns (c : Thread nD τ) arg13 fullShare (VecWindow.put x13 ![0, (i 1).val * 512] S512x512.size (headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.1)) -∗ K ⟨⟩))
      ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11 arg12 harg12 arg13 harg13) K := by
  simp only [cc0_proj_norm_quant_eq_skeleton]; unfold cc0_proj_norm_quant_skel
  rw [wp_bind]
  iintro ⟨H2, H3, H4, H5, H6, H7, H8, H9, H10, H11, H12, H13, Hk⟩
  iapply ((headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.2.2 E _)
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H12]; · iexact H12
  isplitl [H13]; · iexact H13
  iintro ⟨H2, H3, H4, H5, H6, H8, H11, H12, H13⟩
  dsimp only
  unfold owns
  icases H13 with ⟨%f13, %hf13, H13⟩
  rw [dif_neg hc1]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; isplitr; swap; · iexact H13
  ipureintro; exact (View.read_writes_cons_put _ _ _ _ _ (k0_off1_eq i)).trans (by rw [View.writes_nil, hf13, k0_pay1_eq])

set_option maxHeartbeats 1000000 in
/-- The whole body at a point of a row block that is neither the first nor the last: the body fills the weight scratch, stores the output block and the row block's columns. -/
theorem bodyB (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i) (hc1 : ¬cond0_1 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ owns (c : Thread nD τ) arg13 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1 ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ owns (c : Thread nD τ) arg13 fullShare (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)) -∗ K ⟨⟩))
      ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11 arg12 harg12 arg13 harg13) K := by
  simp only [cc0_proj_norm_quant_eq_skeleton]; unfold cc0_proj_norm_quant_skel
  rw [wp_bind]
  iintro ⟨H2, H3, H4, H5, H6, H7, H8, H9, H10, H11, H12, H13, Hk⟩
  iapply ((headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).2.2 E _)
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H12]; · iexact H12
  isplitl [H13]; · iexact H13
  iintro ⟨H2, H3, H4, H5, H6, H8, H11, H12, H13⟩
  dsimp only
  unfold owns
  icases H13 with ⟨%f13, %hf13, H13⟩
  rw [dif_neg hc1]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; isplitr; swap; · iexact H13
  ipureintro; exact (View.read_writes_cons_put _ _ _ _ _ (k0_off1_eq i)).trans (by rw [View.writes_nil, hf13, k0_pay1_eq])

set_option maxHeartbeats 1000000 in
/-- The whole body at the last point of a row block: the body fills the weight scratch, stores the output block and the row block's columns, and then writes the codes and the scales of the row block by its counted loop. -/
theorem bodyC (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i) (hc1 : cond0_1 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ owns (c : Thread nD τ) arg13 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1 ∗ (∃ f, arg9.view.loc (c : Thread nD τ) ↦[arg9.view.set]{fullShare} arg9.view.writes (Elt F) f (loopRun c i arg2 harg2 arg3 harg3 arg4 harg4 arg5 harg5 arg6 harg6 arg7 harg7 arg8 harg8 arg9 harg9 arg10 harg10 arg11 harg11 arg12 harg12 arg13 harg13 hc1 x5 (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)).1) ∗ (∃ f, arg10.view.loc (c : Thread nD τ) ↦[arg10.view.set]{fullShare} arg10.view.writes (Elt F) f (loopRun c i arg2 harg2 arg3 harg3 arg4 harg4 arg5 harg5 arg6 harg6 arg7 harg7 arg8 harg8 arg9 harg9 arg10 harg10 arg11 harg11 arg12 harg12 arg13 harg13 hc1 x5 (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)).2.1) ∗ owns (c : Thread nD τ) arg11 fullShare x11 ∗ (∃ d, owns (c : Thread nD τ) arg12 fullShare d) ∗ owns (c : Thread nD τ) arg13 fullShare (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)) -∗ K ⟨⟩))
      ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11 arg12 harg12 arg13 harg13) K := by
  simp only [cc0_proj_norm_quant_eq_skeleton]; unfold cc0_proj_norm_quant_skel
  rw [wp_bind]
  iintro ⟨H2, H3, H4, H5, H6, H7, H8, H9, H10, H11, H12, H13, Hk⟩
  iapply ((headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).2.2 E _)
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H12]; · iexact H12
  isplitl [H13]; · iexact H13
  iintro ⟨H2, H3, H4, H5, H6, H8, H11, H12, H13⟩
  dsimp only
  unfold owns
  icases H13 with ⟨%f13, %hf13, H13⟩
  rw [wp_bind]
  sl_exec
  iapply ((loopRun c i arg2 harg2 arg3 harg3 arg4 harg4 arg5 harg5 arg6 harg6 arg7 harg7 arg8 harg8 arg9 harg9 arg10 harg10 arg11 harg11 arg12 harg12 arg13 harg13 hc1 x5 (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)).2.2 E _)
  unfold owns
  isplitl [H7]; · iexact H7
  isplitl [H9]; · iexact H9
  isplitl [H10]; · iexact H10
  isplitl [H13]
  · iexists _; isplitr; swap; · iexact H13
    ipureintro; exact (View.read_writes_cons_put _ _ _ _ _ (k0_off1_eq i)).trans (by rw [View.writes_nil, hf13, k0_pay1_eq])
  iintro ⟨H7, H9, H10, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Hand

end
-- ==== Proof.BitsFrame.lean ====
/- The frame of the kernel: every execution ends with the argument arrays unchanged and every counter at zero. -/
module

public import proofs.«01_k».proof.Proof.BitsBody
public import Idealize.ShloMosaic.Lib.Pipeline.FrameBody
public import Idealize.ShloMosaic.Lib.Tactic
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays end unchanged, read off a frame run to relational data over the region-entry contents. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The three outputs, of which the frame says nothing. -/
def forgets0 : Fin 9 → Bool := fun w => w.val == 6 || w.val == 7 || w.val == 8

/-- The frame's proof data: the arrays as the region finds them, every input's buffer at its block, nothing said of the outputs,
    the launch's own invariant (the scratch at anything), nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- What the body returns at a point, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare (iblk m c 0 t) from by
    unfold Dat.leavesExact; rw [show cfg0.idle 0 (cfg0.grid.coords t) = false from rfl]; exact congrArg (owns (c : Thread nD τ) (ms0_0 t) fullShare) (after0_0 m c t)]
  rw [show (dats m 0 c).leavesExact 1 t = owns (c : Thread nD τ) (ms0_1 t) fullShare (iblk m c 1 t) from by
    unfold Dat.leavesExact; rw [show cfg0.idle 1 (cfg0.grid.coords t) = false from rfl]; exact congrArg (owns (c : Thread nD τ) (ms0_1 t) fullShare) (after0_1 m c t)]
  rw [show (dats m 0 c).leavesExact 2 t = owns (c : Thread nD τ) (ms0_2 t) fullShare (iblk m c 2 t) from by
    unfold Dat.leavesExact; rw [show cfg0.idle 2 (cfg0.grid.coords t) = false from rfl]; exact congrArg (owns (c : Thread nD τ) (ms0_2 t) fullShare) (after0_2 m c t)]
  rw [show (dats m 0 c).leavesExact 3 t = owns (c : Thread nD τ) (ms0_3 t) fullShare (iblk m c 3 t) from by
    unfold Dat.leavesExact; rw [show cfg0.idle 3 (cfg0.grid.coords t) = false from rfl]; exact congrArg (owns (c : Thread nD τ) (ms0_3 t) fullShare) (after0_3 m c t)]
  rw [show (dats m 0 c).leavesExact 4 t = owns (c : Thread nD τ) (ms0_4 t) fullShare (iblk m c 4 t) from by
    unfold Dat.leavesExact; rw [show cfg0.idle 4 (cfg0.grid.coords t) = false from rfl]; exact congrArg (owns (c : Thread nD τ) (ms0_4 t) fullShare) (after0_4 m c t)]
  rw [show (dats m 0 c).leavesExact 5 t = owns (c : Thread nD τ) (ms0_5 t) fullShare (iblk m c 5 t) from by
    unfold Dat.leavesExact; rw [show cfg0.idle 5 (cfg0.grid.coords t) = false from rfl]; exact congrArg (owns (c : Thread nD τ) (ms0_5 t) fullShare) (after0_5 m c t)]
  iintro ⟨⟨⟨⟨%x11, H11⟩, H12, ⟨%x13, H13⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val % 14 = 0
  · have h1 : ¬t.val % 14 = 13 := by omega
    iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) x13 Set.univ _)
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    iintro ⟨H2, H3, H4, H5, H6, H7, H8, H9, H10, H11, H12, H13⟩
    isplitl [H11 H12 H13 Hg]
    · isplitl [H11 H12 H13]
      · isplitl [H11]; · iexists _; iexact H11
        isplitl [H12]; · iexact H12
        iexists _; iexact H13
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iexact H10
  · by_cases h1 : t.val % 14 = 13
    · skip
      iapply (bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) x11 x13 Set.univ _)
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      iintro ⟨H2, H3, H4, H5, H6, H7, H8, ⟨%f9, H9⟩, ⟨%f10, H10⟩, H11, H12, H13⟩
      isplitl [H11 H12 H13 Hg]
      · isplitl [H11 H12 H13]
        · isplitl [H11]; · iexists _; iexact H11
          isplitl [H12]; · iexact H12
          iexists _; iexact H13
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]
      · unfold owns; iexists _, _; isplitr; swap; · iexact H9
        ipureintro; rfl
      unfold owns; iexists _, _; isplitr; swap; · iexact H10
      ipureintro; rfl
    · skip
      iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) x11 x13 Set.univ _)
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      iintro ⟨H2, H3, H4, H5, H6, H7, H8, H9, H10, H11, H12, H13⟩
      isplitl [H11 H12 H13 Hg]
      · isplitl [H11 H12 H13]
        · isplitl [H11]; · iexists _; iexact H11
          isplitl [H12]; · iexact H12
          iexists _; iexact H13
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iexact H10

/-- The body table's row at a point's slots is the body at the point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point, nothing asked of the outputs. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: every execution ends, every input array and every other buffer as the region found it, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget forgets0) (A_eq m) ((θ_run defs _ _).mono (fun _ h => h.1) (run_main_quiescent m ρ)))
    ((θ_run defs _ _).mono (fun _ h => h.2) (run_main_quiescent m ρ))

end Cert.Kernel.Hand

end
-- ==== Proof.IdealPoints.lean ====
/- What the kernel body does at one grid point: the branch conditions over the points, and the buffers it is called with. -/
module

public import proofs.«01_k».proof.Proof.Gen.KernelIdeal.Frame
public import proofs.«01_k».proof.Proof.Gen.KernelIdeal.Loops
public import Idealize.ShloMosaic.Lib.Ring
public import Idealize.ShloMosaic.Lib.WordCmp
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The condition of the body's first branch: the point is the first of its row block. -/
abbrev cond0_0 (i : grid0.Coords) : Prop := (Scalar.cmpi .ne (Scalar.extui (Scalar.cmpi .eq (BitVec.ofNat 32 (i 1).val) 0#32)) 0#32) = 1#1
/-- The grid coordinates of a point. -/
theorem coords0 (t : Fin cfg0.N) : (grid0.coords t 0).val = t.val / 14 := by
  have ht : t.val < 672 := Nat.lt_of_lt_of_eq t.isLt N_0
  have e0 : (grid0.coords t 0).val = t.val / 14 % 48 := Pipeline.Grid.coords_val t 0 (by decide) rfl
  omega
theorem coords1 (t : Fin cfg0.N) : (grid0.coords t 1).val = t.val % 14 := by
  have e1 : (grid0.coords t 1).val = t.val / 1 % 14 := Pipeline.Grid.coords_val t 1 (by decide) rfl
  omega
theorem hcond0_0 : ∀ t : Fin cfg0.N, cond0_0 (grid0.coords t) ↔ t.val % 14 = 0 :=
  (fun t => by
    have ht : t.val < 672 := Nat.lt_of_lt_of_eq t.isLt N_0
    have e1 : (grid0.coords t 1).val = t.val / 1 % 14 := Pipeline.Grid.coords_val t 1 (by decide) rfl
    simp only [cond0_0, e1]
    word_cmp
   : ∀ t : Fin grid0.N, cond0_0 (grid0.coords t) ↔ t.val % 14 = 0)

/-- The condition of the body's second branch: the point is the last of its row block. -/
abbrev cond0_1 (i : grid0.Coords) : Prop := k0_cond2 i = 1#1
theorem hcond0_1 : ∀ t : Fin cfg0.N, cond0_1 (grid0.coords t) ↔ t.val % 14 = 13 :=
  (fun t => by
    have ht : t.val < 672 := Nat.lt_of_lt_of_eq t.isLt N_0
    have e1 : (grid0.coords t 1).val = t.val / 1 % 14 := Pipeline.Grid.coords_val t 1 (by decide) rfl
    simp only [cond0_1, k0_cond2, e1]
    word_cmp
   : ∀ t : Fin grid0.N, cond0_1 (grid0.coords t) ↔ t.val % 14 = 13)

abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x7168 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x7168 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1 .f32 := win0_8.stage (cfg0.slots t 8)
abbrev hs0_8 (t : Fin cfg0.N) : (ms0_8 t).IsWhole := hstage0_8 ((cfg0.slots t 8).cast nbuf0_8)
abbrev scM0_0 : Memref sig .tc .vmem S512x8192 .bf16 := Memref.whole cc0_scratch0
abbrev scM0_1 : Memref sig .tc .vmem S8192x512 .bf16 := Memref.whole cc0_scratch1
abbrev scM0_2 : Memref sig .tc .vmem S512x7168 .bf16 := Memref.whole cc0_scratch2

/-- The launch's invariant: the three scratch buffers owned at some contents, and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.IdealHeadA.lean ====
/- The kernel body up to the store of the row block's columns, at the first point of a row block. -/
module

public import proofs.«01_k».proof.Proof.IdealPoints

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body up to the store of the row block's columns, at the first point of a row block: the activation block is cast into its scratch, the weight scratch is filled and the output block is stored. The
    values of the activation scratch and of the output block are the run's finds. -/
@[irreducible] def headA (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : cond0_0 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x13 : Vec F S512x7168 .bf16) :
    Σ' (xb : Vec F S512x8192 .bf16) (v : FVec F S512x512 .bf16), { w : Vec F S512x512 .bf16 //
      ∀ (E : Set ℕ) (K : (Σ' (arg1 : BitVec 32) (v590 : FVec F S512x512 .bf16), Vec F S512x512 .bf16) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ (∃ d, owns (c : Thread nD τ) arg11 fullShare d) ∗ (∃ d, owns (c : Thread nD τ) arg12 fullShare d) ∗ owns (c : Thread nD τ) arg13 fullShare x13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare v ∗ owns (c : Thread nD τ) arg11 fullShare xb ∗ (∃ d, owns (c : Thread nD τ) arg12 fullShare d) ∗ owns (c : Thread nD τ) arg13 fullShare x13) -∗ K ⟨BitVec.ofNat 32 (i 1).val, v, w⟩))
          ⊢ wp frame (wpE (defs₀ (F := F)) Variants.none c none) E (k0_part20 i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [k0_part20_eq_skeleton]; unfold k0_part20_skel
    unfold owns
    iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%d11, %f11, -, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg13.eq_unread hf13
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; isplitr; swap; · iexact H8
      ipureintro; exact View.read_writes_full _ _ _ _ _
    isplitl [H11]
    · iexists _; isplitr; swap; · iexact H11
      ipureintro; exact View.read_writes_full _ _ _ _ _
    isplitl [H12]
    · iexists _, _; isplitr; swap; · iexact H12
      ipureintro; rfl
    iexists _; isplitr; · ipureintro; exact harg13.read_unread _
    iexact H13

end Cert.KernelIdeal.Hand

end
-- ==== Proof.IdealHeadB.lean ====
/- The kernel body up to the store of the row block's columns, at a point that is not the first of its row block. -/
module

public import proofs.«01_k».proof.Proof.IdealPoints

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The body up to the store of the row block's columns, at a point that is not the first of a row block: the weight scratch is filled and the output block is stored, the activations read from their scratch. The
    values of the output block are the run's finds. -/
@[irreducible] def headB (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) :
    Σ' (v : FVec F S512x512 .bf16), { w : Vec F S512x512 .bf16 //
      ∀ (E : Set ℕ) (K : (Σ' (arg1 : BitVec 32) (v590 : FVec F S512x512 .bf16), Vec F S512x512 .bf16) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg8 fullShare d) ∗ owns (c : Thread nD τ) arg11 fullShare x11 ∗ (∃ d, owns (c : Thread nD τ) arg12 fullShare d) ∗ owns (c : Thread nD τ) arg13 fullShare x13
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg8 fullShare v ∗ owns (c : Thread nD τ) arg11 fullShare x11 ∗ (∃ d, owns (c : Thread nD τ) arg12 fullShare d) ∗ owns (c : Thread nD τ) arg13 fullShare x13) -∗ K ⟨BitVec.ofNat 32 (i 1).val, v, w⟩))
          ⊢ wp frame (wpE (defs₀ (F := F)) Variants.none c none) E (k0_part20 i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [k0_part20_eq_skeleton]; unfold k0_part20_skel
    unfold owns
    iintro ⟨⟨%f2, %hf2, H2⟩, ⟨%f3, %hf3, H3⟩, ⟨%f4, %hf4, H4⟩, ⟨%f5, %hf5, H5⟩, ⟨%f6, %hf6, H6⟩, ⟨%d8, %f8, -, H8⟩, ⟨%f11, %hf11, H11⟩, ⟨%d12, %f12, -, H12⟩, ⟨%f13, %hf13, H13⟩, Hk⟩
    obtain rfl := harg2.eq_unread hf2; obtain rfl := harg3.eq_unread hf3; obtain rfl := harg4.eq_unread hf4; obtain rfl := harg5.eq_unread hf5; obtain rfl := harg6.eq_unread hf6; obtain rfl := harg11.eq_unread hf11; obtain rfl := harg13.eq_unread hf13
    sl_exec (disch := sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]
    · iexists _; isplitr; swap; · iexact H8
      ipureintro; exact View.read_writes_full _ _ _ _ _
    isplitl [H11]
    · iexists _; isplitr; · ipureintro; exact harg11.read_unread _
      iexact H11
    isplitl [H12]
    · iexists _, _; isplitr; swap; · iexact H12
      ipureintro; rfl
    iexists _; isplitr; · ipureintro; exact harg13.read_unread _
    iexact H13

end Cert.KernelIdeal.Hand

end
-- ==== Proof.IdealLoop.lean ====
/- The counted loop of the kernel body. -/
module

public import proofs.«01_k».proof.Proof.IdealPoints

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The counted loop of the last point of a row block, over a row block's columns `x13` and the weights `x5` of the norm: the
    pieces it writes into the codes and the scales. -/
@[irreducible] def loopRun (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc1 : cond0_1 i)
    (x5 : Vec F S1x7168 .bf16) (x13 : Vec F S512x7168 .bf16) :
    Σ' (L9 : List (View.Piece (Elt F) S512x7168 .fp8e4m3)), { L10 : List (View.Piece (Elt F) S512x1 .f32) //
      ∀ (E : Set ℕ) (K : Unit → sProp 𝕄),
        iprop(owns (c : Thread nD τ) arg7 fullShare x5 ∗ (∃ d, owns (c : Thread nD τ) arg9 fullShare d) ∗ (∃ d, owns (c : Thread nD τ) arg10 fullShare d) ∗ owns (c : Thread nD τ) arg13 fullShare x13
            ∗ (iprop(owns (c : Thread nD τ) arg7 fullShare x5 ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ owns (c : Thread nD τ) arg13 fullShare x13) -∗ K ⟨⟩))
          ⊢ wp frame (wpE (defs₀ (F := F)) Variants.none c none) E (do
              Scf.Loop.for k0_t1_loop (k0_t1_ok i hc1) ⟨⟩ (k0_t1_body (F := F) i arg2 harg2 arg3 harg3 arg4 harg4 arg5 harg5 arg6 harg6 arg7 harg7 arg8 harg8 arg9 harg9 arg10 harg10 arg11 harg11 arg12 harg12 arg13 harg13 hc1)
              pure ⟨⟩) K } := by
  refine ⟨?_, ?_, fun E K => ?run⟩
  case run =>
    unfold owns
    iintro ⟨⟨%f7, %hf7, H7⟩, ⟨%d9, %f9, -, H9⟩, ⟨%d10, %f10, -, H10⟩, ⟨%f13, %hf13, H13⟩, Hk⟩
    obtain rfl := harg7.eq_unread hf7; obtain rfl := harg13.eq_unread hf13
    sl_exec
    sl_step
    iapply Hk
    isplitl [H7]
    · iexists _; isplitr; · ipureintro; exact harg7.read_unread _
      iexact H7
    isplitl [H9]; · iexists f9; iexact H9
    isplitl [H10]; · iexists f10; iexact H10
    iexists _; isplitr; · ipureintro; exact harg13.read_unread _
    iexact H13

end Cert.KernelIdeal.Hand

end
-- ==== Proof.IdealBody.lean ====
/- The whole kernel body at the points of a row block. -/
module

public import proofs.«01_k».proof.Proof.IdealHeadA
public import proofs.«01_k».proof.Proof.IdealHeadB
public import proofs.«01_k».proof.Proof.IdealLoop
public import Idealize.ShloMosaic.Lib.VecWindow
public import Idealize.ShloMosaic.Lib.Pointwise.Reshape

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The row block's columns of a point start at its second coordinate times 512. -/
theorem k0_off1_eq (i : grid0.Coords) : k0_off1 i = ![0, (i 1).val * 512] := by
  have h : (i 1).val < 14 := (i 1).isLt
  funext a
  match a with
  | ⟨0, _⟩ => rfl
  | ⟨1, _⟩ =>
    show (BitVec.ofNat 32 (i 1).val * 512#32).toNat = (i 1).val * 512
    simp only [BitVec.toNat_mul, BitVec.toNat_ofNat]
    omega
/-- The value stored into the columns is the output block itself. -/
theorem k0_pay1_eq (v : FVec F S512x512 .bf16) : k0_pay1 v = v := by
  unfold k0_pay1; exact Idealize.ShloMosaic.shapeCast_id _ _

set_option maxHeartbeats 1000000 in
/-- The whole body at the first point of a row block: the body casts the activation block into its scratch, fills the weight scratch, stores the output block and the row block's columns. -/
theorem bodyA (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : cond0_0 i) (hc1 : ¬cond0_1 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x13 : Vec F S512x7168 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.1 ∗ (∃ d, owns (c : Thread nD τ) arg9 fullShare d) ∗ (∃ d, owns (c : Thread nD τ) arg10 fullShare d) ∗ owns (c : Thread nD τ) arg11 fullShare (headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).1 ∗ (∃ d, owns (c : Thread nD τ) arg12 fullShare d) ∗ owns (c : Thread nD τ) arg13 fullShare (VecWindow.put x13 ![0, (i 1).val * 512] S512x512.size (headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.1)) -∗ K ⟨⟩))
      ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11 arg12 harg12 arg13 harg13) K := by
  simp only [cc0_proj_norm_quant_eq_skeleton]; unfold cc0_proj_norm_quant_skel
  rw [wp_bind]
  iintro ⟨H2, H3, H4, H5, H6, H7, H8, H9, H10, H11, H12, H13, Hk⟩
  iapply ((headA c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.2.2 E _)
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H12]; · iexact H12
  isplitl [H13]; · iexact H13
  iintro ⟨H2, H3, H4, H5, H6, H8, H11, H12, H13⟩
  dsimp only
  unfold owns
  icases H13 with ⟨%f13, %hf13, H13⟩
  rw [dif_neg hc1]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; isplitr; swap; · iexact H13
  ipureintro; exact (View.read_writes_cons_put _ _ _ _ _ (k0_off1_eq i)).trans (by rw [View.writes_nil, hf13, k0_pay1_eq])

set_option maxHeartbeats 1000000 in
/-- The whole body at a point of a row block that is neither the first nor the last: the body fills the weight scratch, stores the output block and the row block's columns. -/
theorem bodyB (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i) (hc1 : ¬cond0_1 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ owns (c : Thread nD τ) arg13 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1 ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ owns (c : Thread nD τ) arg13 fullShare (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)) -∗ K ⟨⟩))
      ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11 arg12 harg12 arg13 harg13) K := by
  simp only [cc0_proj_norm_quant_eq_skeleton]; unfold cc0_proj_norm_quant_skel
  rw [wp_bind]
  iintro ⟨H2, H3, H4, H5, H6, H7, H8, H9, H10, H11, H12, H13, Hk⟩
  iapply ((headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).2.2 E _)
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H12]; · iexact H12
  isplitl [H13]; · iexact H13
  iintro ⟨H2, H3, H4, H5, H6, H8, H11, H12, H13⟩
  dsimp only
  unfold owns
  icases H13 with ⟨%f13, %hf13, H13⟩
  rw [dif_neg hc1]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexists _; isplitr; swap; · iexact H13
  ipureintro; exact (View.read_writes_cons_put _ _ _ _ _ (k0_off1_eq i)).trans (by rw [View.writes_nil, hf13, k0_pay1_eq])

set_option maxHeartbeats 1000000 in
/-- The whole body at the last point of a row block: the body fills the weight scratch, stores the output block and the row block's columns, and then writes the codes and the scales of the row block by its counted loop. -/
theorem bodyC (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i) (hc1 : cond0_1 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare x11 ∗ (∃ d, owns (c : Thread nD τ) arg12 fullShare d) ∗ owns (c : Thread nD τ) arg13 fullShare x13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1 ∗ (∃ f, arg9.view.loc (c : Thread nD τ) ↦[arg9.view.set]{fullShare} arg9.view.writes (Elt F) f (loopRun c i arg2 harg2 arg3 harg3 arg4 harg4 arg5 harg5 arg6 harg6 arg7 harg7 arg8 harg8 arg9 harg9 arg10 harg10 arg11 harg11 arg12 harg12 arg13 harg13 hc1 x5 (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)).1) ∗ (∃ f, arg10.view.loc (c : Thread nD τ) ↦[arg10.view.set]{fullShare} arg10.view.writes (Elt F) f (loopRun c i arg2 harg2 arg3 harg3 arg4 harg4 arg5 harg5 arg6 harg6 arg7 harg7 arg8 harg8 arg9 harg9 arg10 harg10 arg11 harg11 arg12 harg12 arg13 harg13 hc1 x5 (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)).2.1) ∗ owns (c : Thread nD τ) arg11 fullShare x11 ∗ (∃ d, owns (c : Thread nD τ) arg12 fullShare d) ∗ owns (c : Thread nD τ) arg13 fullShare (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)) -∗ K ⟨⟩))
      ⊢ wp frame (wpE (defs₀ (F := F)) Variants.none c none) E (cc0_proj_norm_quant i arg2 harg2 arg3 harg3 arg4 harg4 arg5 harg5 arg6 harg6 arg7 harg7 arg8 harg8 arg9 harg9 arg10 harg10 arg11 harg11 arg12 harg12 arg13 harg13) K := by
  simp only [cc0_proj_norm_quant_eq_skeleton]; unfold cc0_proj_norm_quant_skel
  rw [wp_bind]
  iintro ⟨H2, H3, H4, H5, H6, H7, H8, H9, H10, H11, H12, H13, Hk⟩
  iapply ((headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).2.2 E _)
  isplitl [H2]; · iexact H2
  isplitl [H3]; · iexact H3
  isplitl [H4]; · iexact H4
  isplitl [H5]; · iexact H5
  isplitl [H6]; · iexact H6
  isplitl [H8]; · iexact H8
  isplitl [H11]; · iexact H11
  isplitl [H12]; · iexact H12
  isplitl [H13]; · iexact H13
  iintro ⟨H2, H3, H4, H5, H6, H8, H11, H12, H13⟩
  dsimp only
  unfold owns
  icases H13 with ⟨%f13, %hf13, H13⟩
  rw [wp_bind]
  sl_exec
  iapply ((loopRun c i arg2 harg2 arg3 harg3 arg4 harg4 arg5 harg5 arg6 harg6 arg7 harg7 arg8 harg8 arg9 harg9 arg10 harg10 arg11 harg11 arg12 harg12 arg13 harg13 hc1 x5 (VecWindow.put x13 ![0, (i 1).val * 512] S512x512.size (headB c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1)).2.2 E _)
  unfold owns
  isplitl [H7]; · iexact H7
  isplitl [H9]; · iexact H9
  isplitl [H10]; · iexact H10
  isplitl [H13]
  · iexists _; isplitr; swap; · iexact H13
    ipureintro; exact (View.read_writes_cons_put _ _ _ _ _ (k0_off1_eq i)).trans (by rw [View.writes_nil, hf13, k0_pay1_eq])
  iintro ⟨H7, H9, H10, H13⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Hand

end
-- ==== Proof.IdealFrame.lean ====
/- The frame of the kernel: every execution ends with the argument arrays unchanged and every counter at zero. -/
module

public import proofs.«01_k».proof.Proof.IdealBody
public import Idealize.ShloMosaic.Lib.Pipeline.FrameBody
public import Idealize.ShloMosaic.Lib.Tactic
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays end unchanged, read off a frame run to relational data over the region-entry contents. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- The three outputs, of which the frame says nothing. -/
def forgets0 : Fin 9 → Bool := fun w => w.val == 6 || w.val == 7 || w.val == 8

/-- The frame's proof data: the arrays as the region finds them, every input's buffer at its block, nothing said of the outputs,
    the launch's own invariant (the scratch at anything), nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

/-- What the body returns at a point, window by window. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare (iblk m c 0 t) from by
    unfold Dat.leavesExact; rw [show cfg0.idle 0 (cfg0.grid.coords t) = false from rfl]; exact congrArg (owns (c : Thread nD τ) (ms0_0 t) fullShare) (after0_0 m c t)]
  rw [show (dats m 0 c).leavesExact 1 t = owns (c : Thread nD τ) (ms0_1 t) fullShare (iblk m c 1 t) from by
    unfold Dat.leavesExact; rw [show cfg0.idle 1 (cfg0.grid.coords t) = false from rfl]; exact congrArg (owns (c : Thread nD τ) (ms0_1 t) fullShare) (after0_1 m c t)]
  rw [show (dats m 0 c).leavesExact 2 t = owns (c : Thread nD τ) (ms0_2 t) fullShare (iblk m c 2 t) from by
    unfold Dat.leavesExact; rw [show cfg0.idle 2 (cfg0.grid.coords t) = false from rfl]; exact congrArg (owns (c : Thread nD τ) (ms0_2 t) fullShare) (after0_2 m c t)]
  rw [show (dats m 0 c).leavesExact 3 t = owns (c : Thread nD τ) (ms0_3 t) fullShare (iblk m c 3 t) from by
    unfold Dat.leavesExact; rw [show cfg0.idle 3 (cfg0.grid.coords t) = false from rfl]; exact congrArg (owns (c : Thread nD τ) (ms0_3 t) fullShare) (after0_3 m c t)]
  rw [show (dats m 0 c).leavesExact 4 t = owns (c : Thread nD τ) (ms0_4 t) fullShare (iblk m c 4 t) from by
    unfold Dat.leavesExact; rw [show cfg0.idle 4 (cfg0.grid.coords t) = false from rfl]; exact congrArg (owns (c : Thread nD τ) (ms0_4 t) fullShare) (after0_4 m c t)]
  rw [show (dats m 0 c).leavesExact 5 t = owns (c : Thread nD τ) (ms0_5 t) fullShare (iblk m c 5 t) from by
    unfold Dat.leavesExact; rw [show cfg0.idle 5 (cfg0.grid.coords t) = false from rfl]; exact congrArg (owns (c : Thread nD τ) (ms0_5 t) fullShare) (after0_5 m c t)]
  iintro ⟨⟨⟨⟨%x11, H11⟩, H12, ⟨%x13, H13⟩⟩, Hg⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  by_cases h0 : t.val % 14 = 0
  · have h1 : ¬t.val % 14 = 13 := by omega
    iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) x13 Set.univ _)
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    iintro ⟨H2, H3, H4, H5, H6, H7, H8, H9, H10, H11, H12, H13⟩
    isplitl [H11 H12 H13 Hg]
    · isplitl [H11 H12 H13]
      · isplitl [H11]; · iexists _; iexact H11
        isplitl [H12]; · iexact H12
        iexists _; iexact H13
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iexact H10
  · by_cases h1 : t.val % 14 = 13
    · skip
      iapply (bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) x11 x13 Set.univ _)
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      iintro ⟨H2, H3, H4, H5, H6, H7, H8, ⟨%f9, H9⟩, ⟨%f10, H10⟩, H11, H12, H13⟩
      isplitl [H11 H12 H13 Hg]
      · isplitl [H11 H12 H13]
        · isplitl [H11]; · iexists _; iexact H11
          isplitl [H12]; · iexact H12
          iexists _; iexact H13
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]
      · unfold owns; iexists _, _; isplitr; swap; · iexact H9
        ipureintro; rfl
      unfold owns; iexists _, _; isplitr; swap; · iexact H10
      ipureintro; rfl
    · skip
      iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) x11 x13 Set.univ _)
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      iintro ⟨H2, H3, H4, H5, H6, H7, H8, H9, H10, H11, H12, H13⟩
      isplitl [H11 H12 H13 Hg]
      · isplitl [H11 H12 H13]
        · isplitl [H11]; · iexists _; iexact H11
          isplitl [H12]; · iexact H12
          iexists _; iexact H13
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      iexact H10

/-- The body table's row at a point's slots is the body at the point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point, nothing asked of the outputs. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run: every execution ends, every input array and every other buffer as the region found it, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_ofR m ρ (fun c => (dats m 0 c).toRForget forgets0) (A_eq m) ((θ_run defs _ _).mono (fun _ h => h.1) (run_main_quiescent m ρ)))
    ((θ_run defs _ _).mono (fun _ h => h.2) (run_main_quiescent m ρ))

end Cert.KernelIdeal.Hand

end
-- ==== Proof.IdealWb.lean ====
/- One block of the dequantised weights. -/
module

public import proofs.«01_k».proof.Proof.IdealPoints
public import Idealize.ShloMosaic.Lib.VecWindow
public import Idealize.ShloMosaic.Lib.WholeRead
public import Idealize.ShloMosaic.Lib.ValueLayout
public import Idealize.ShloMosaic.Lib.Pipeline.ValueKit.Tiles
public import Idealize.ShloMosaic.Lib.Pipeline.FrameBody
public import Idealize.ShloMosaic.Lib.Pointwise.Reshape

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- The dequantised weight block: each code times the scale of its 128-row block and its column. -/
def wbOf (x2 : Vec F S8192x512 .fp8e4m3) (x3 : Vec F S64x512 .bf16) : Vec F S8192x512 .bf16 := fun y =>
  FloatOps.mulf (FloatOps.extf .bf16 bitsLt_fp8e4m3_bf16 (x2 y)) (x3 (ValueIdx.ix2 ⟨(y 0).val / 128, by have := (y 0).isLt; simp at this; omega⟩ (y 1)))

/-- One block of 128 rows of the dequantised weights, at an index of the block. -/
theorem k0_pay14_apply (a : Vec F S128x512 .fp8e4m3) (b : Vec F S1x512 .bf16) (p : Fin 128) (q : Fin 512) :
    k0_pay14 a b (ValueIdx.ix2 p q) = FloatOps.mulf (FloatOps.extf .bf16 bitsLt_fp8e4m3_bf16 (a (ValueIdx.ix2 p q))) (b (ValueIdx.ix2 0 q)) := by
  unfold k0_pay14
  simp only [Idealize.ShloMosaic.shapeCast_id]
  show FloatOps.mulf _ (broadcastTo S128x512 b broadcasts_S1x512_S128x512 (ValueIdx.ix2 p q)) = _
  rw [ValueIdx.broadcastTo_1b_ab_apply]; rfl

/-- The store of block `k` of the weight scratch holds, wherever it reaches, the dequantised weights. -/
theorem tile_wb (arg4 : Memref sig .tc .vmem S8192x512 .fp8e4m3) (harg4 : arg4.IsWhole) (arg5 : Memref sig .tc .vmem S64x512 .bf16) (harg5 : arg5.IsWhole)
    (x2 : Vec F S8192x512 .fp8e4m3) (x3 : Vec F S64x512 .bf16) (k : ℕ) (hk : k < 64)
    (inb2 : ∀ a, (![128 * k, 0] : Fin 2 → ℕ) a + S128x512.size a ≤ S8192x512.size a) (inb3 : ∀ a, (![k, 0] : Fin 2 → ℕ) a + S1x512.size a ≤ S64x512.size a)
    (y : S8192x512.Idx) :
    View.TileAt y ![128 * k, 0] S128x512.size (k0_pay14 (View.readAt (Elt F) arg4.view (Rect.unit (s := S8192x512) ![128 * k, 0] S128x512.size inb2).toLoadRect (harg4.unread x2))
      (View.readAt (Elt F) arg5.view (Rect.unit (s := S64x512) ![k, 0] S1x512.size inb3).toLoadRect (harg5.unread x3))) (wbOf x2 x3 y) := by
  intro z hz
  obtain ⟨p, q, rfl⟩ : ∃ (p : Fin 128) (q : Fin 512), z = ValueIdx.ix2 p q := ⟨z 0, z 1, (ValueIdx.eq_ix2 z)⟩
  have h0 : (y 0).val = 128 * k + p.val := hz 0
  have h1 : (y 1).val = 0 + q.val := hz 1
  have hp := p.isLt
  rw [k0_pay14_apply, harg4.readAt_unread, harg5.readAt_unread]
  unfold wbOf
  congr 1
  · congr 1; congr 1
    funext a; apply Fin.ext
    match a with
    | ⟨0, _⟩ => show 128 * k + 1 * p.val = (y 0).val; omega
    | ⟨1, _⟩ => show 0 + 1 * q.val = (y 1).val; omega
  · congr 1
    funext a; apply Fin.ext
    match a with
    | ⟨0, _⟩ => show k + 1 * 0 = (y 0).val / 128; omega
    | ⟨1, _⟩ => show 0 + 1 * q.val = (y 1).val; omega

end Cert.KernelIdeal.Hand

end
-- ==== Proof.IdealVals.lean ====
/- The values the kernel body stores: the dequantised weights and the output block. -/
module

public import proofs.«01_k».proof.Proof.IdealHeadA
public import proofs.«01_k».proof.Proof.IdealHeadB
public import proofs.«01_k».proof.Proof.IdealWb
public import Idealize.ShloMosaic.Lib.VecWindow
public import Idealize.ShloMosaic.Lib.WholeRead
public import Idealize.ShloMosaic.Lib.ValueLayout
public import Idealize.ShloMosaic.Lib.Pipeline.ValueKit.Tiles
public import Idealize.ShloMosaic.Lib.Pipeline.FrameBody
public import Idealize.ShloMosaic.Lib.Pointwise.Reshape

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
/-- The weight scratch after its 64 stores holds the dequantised weight block. -/
theorem wb_canon (c : Dev nD) (arg4 : Memref sig .tc .vmem S8192x512 .fp8e4m3) (harg4 : arg4.IsWhole) (arg5 : Memref sig .tc .vmem S64x512 .bf16) (harg5 : arg5.IsWhole)
    (x2 : Vec F S8192x512 .fp8e4m3) (x3 : Vec F S64x512 .bf16) :
    View.canon (headB.sl.H12_64 c arg4 harg4 arg5 harg5 x2 x3) = wbOf x2 x3 := by
  funext y
  refine View.canon_eq_of_allAt _ y _ ?_ ?_
  · unfold headB.sl.H12_64
    exact View.cover_of_tiled_head _ _ _ rfl y
  · unfold headB.sl.H12_64
    refine View.allAt_cons_unit _ _ _ _ _ (tile_wb arg4 harg4 arg5 harg5 x2 x3 63 (by omega) _ _ y) ?_
    refine View.allAt_cons_unit _ _ _ _ _ (tile_wb arg4 harg4 arg5 harg5 x2 x3 62 (by omega) _ _ y) ?_
    refine View.allAt_cons_unit _ _ _ _ _ (tile_wb arg4 harg4 arg5 harg5 x2 x3 61 (by omega) _ _ y) ?_
    refine View.allAt_cons_unit _ _ _ _ _ (tile_wb arg4 harg4 arg5 harg5 x2 x3 60 (by omega) _ _ y) ?_
    refine View.allAt_cons_unit _ _ _ _ _ (tile_wb arg4 harg4 arg5 harg5 x2 x3 59 (by omega) _ _ y) ?_
    refine View.allAt_cons_unit _ _ _ _ _ (tile_wb arg4 harg4 arg5 harg5 x2 x3 58 (by omega) _ _ y) ?_
    refine View.allAt_cons_unit _ _ _ _ _ (tile_wb arg4 harg4 arg5 harg5 x2 x3 57 (by omega) _ _ y) ?_
    refine View.allAt_cons_unit _ _ _ _ _ (tile_wb arg4 harg4 arg5 harg5 x2 x3 56 (by omega) _ _ y) ?_
    refine View.allAt_cons_unit _ _ _ _ _ (tile_wb arg4 harg4 arg5 harg5 x2 x3 55 (by omega) _ _ y) ?_
    refine View.allAt_cons_unit _ _ _ _ _ (tile_wb arg4 harg4 arg5 harg5 x2 x3 54 (by omega) _ _ y) ?_
    refine View.allAt_cons_unit _ _ _ _ _ (tile_wb arg4 harg4 arg5 harg5 x2 x3 53 (by omega) _ _ y) ?_
    refine View.allAt_cons_unit _ _ _ _ _ (tile_wb arg4 harg4 arg5 harg5 x2 x3 52 (by omega) _ _ y) ?_
    refine View.allAt_cons_unit _ _ _ _ _ (tile_wb arg4 harg4 arg5 harg5 x2 x3 51 (by omega) _ _ y) ?_
    refine View.allAt_cons_unit _ _ _ _ _ (tile_wb arg4 harg4 arg5 harg5 x2 x3 50 (by omega) _ _ y) ?_
    refine View.allAt_cons_unit _ _ _ _ _ (tile_wb arg4 harg4 arg5 harg5 x2 x3 49 (by omega) _ _ y) ?_
    refine View.allAt_cons_unit _ _ _ _ _ (tile_wb arg4 harg4 arg5 harg5 x2 x3 48 (by omega) _ _ y) ?_
    refine View.allAt_cons_unit _ _ _ _ _ (tile_wb arg4 harg4 arg5 harg5 x2 x3 47 (by omega) _ _ y) ?_
    refine View.allAt_cons_unit _ _ _ _ _ (tile_wb arg4 harg4 arg5 harg5 x2 x3 46 (by omega) _ _ y) ?_
    refine View.allAt_cons_unit _ _ _ _ _ (tile_wb arg4 harg4 arg5 harg5 x2 x3 45 (by omega) _ _ y) ?_
    refine View.allAt_cons_unit _ _ _ _ _ (tile_wb arg4 harg4 arg5 harg5 x2 x3 44 (by omega) _ _ y) ?_
    refine View.allAt_cons_unit _ _ _ _ _ (tile_wb arg4 harg4 arg5 harg5 x2 x3 43 (by omega) _ _ y) ?_
    refine View.allAt_cons_unit _ _ _ _ _ (tile_wb arg4 harg4 arg5 harg5 x2 x3 42 (by omega) _ _ y) ?_
    refine View.allAt_cons_unit _ _ _ _ _ (tile_wb arg4 harg4 arg5 harg5 x2 x3 41 (by omega) _ _ y) ?_
    refine View.allAt_cons_unit _ _ _ _ _ (tile_wb arg4 harg4 arg5 harg5 x2 x3 40 (by omega) _ _ y) ?_
    refine View.allAt_cons_unit _ _ _ _ _ (tile_wb arg4 harg4 arg5 harg5 x2 x3 39 (by omega) _ _ y) ?_
    refine View.allAt_cons_unit _ _ _ _ _ (tile_wb arg4 harg4 arg5 harg5 x2 x3 38 (by omega) _ _ y) ?_
    refine View.allAt_cons_unit _ _ _ _ _ (tile_wb arg4 harg4 arg5 harg5 x2 x3 37 (by omega) _ _ y) ?_
    refine View.allAt_cons_unit _ _ _ _ _ (tile_wb arg4 harg4 arg5 harg5 x2 x3 36 (by omega) _ _ y) ?_
    refine View.allAt_cons_unit _ _ _ _ _ (tile_wb arg4 harg4 arg5 harg5 x2 x3 35 (by omega) _ _ y) ?_
    refine View.allAt_cons_unit _ _ _ _ _ (tile_wb arg4 harg4 arg5 harg5 x2 x3 34 (by omega) _ _ y) ?_
    refine View.allAt_cons_unit _ _ _ _ _ (tile_wb arg4 harg4 arg5 harg5 x2 x3 33 (by omega) _ _ y) ?_
    refine View.allAt_cons_unit _ _ _ _ _ (tile_wb arg4 harg4 arg5 harg5 x2 x3 32 (by omega) _ _ y) ?_
    refine View.allAt_cons_unit _ _ _ _ _ (tile_wb arg4 harg4 arg5 harg5 x2 x3 31 (by omega) _ _ y) ?_
    refine View.allAt_cons_unit _ _ _ _ _ (tile_wb arg4 harg4 arg5 harg5 x2 x3 30 (by omega) _ _ y) ?_
    refine View.allAt_cons_unit _ _ _ _ _ (tile_wb arg4 harg4 arg5 harg5 x2 x3 29 (by omega) _ _ y) ?_
    refine View.allAt_cons_unit _ _ _ _ _ (tile_wb arg4 harg4 arg5 harg5 x2 x3 28 (by omega) _ _ y) ?_
    refine View.allAt_cons_unit _ _ _ _ _ (tile_wb arg4 harg4 arg5 harg5 x2 x3 27 (by omega) _ _ y) ?_
    refine View.allAt_cons_unit _ _ _ _ _ (tile_wb arg4 harg4 arg5 harg5 x2 x3 26 (by omega) _ _ y) ?_
    refine View.allAt_cons_unit _ _ _ _ _ (tile_wb arg4 harg4 arg5 harg5 x2 x3 25 (by omega) _ _ y) ?_
    refine View.allAt_cons_unit _ _ _ _ _ (tile_wb arg4 harg4 arg5 harg5 x2 x3 24 (by omega) _ _ y) ?_
    refine View.allAt_cons_unit _ _ _ _ _ (tile_wb arg4 harg4 arg5 harg5 x2 x3 23 (by omega) _ _ y) ?_
    refine View.allAt_cons_unit _ _ _ _ _ (tile_wb arg4 harg4 arg5 harg5 x2 x3 22 (by omega) _ _ y) ?_
    refine View.allAt_cons_unit _ _ _ _ _ (tile_wb arg4 harg4 arg5 harg5 x2 x3 21 (by omega) _ _ y) ?_
    refine View.allAt_cons_unit _ _ _ _ _ (tile_wb arg4 harg4 arg5 harg5 x2 x3 20 (by omega) _ _ y) ?_
    refine View.allAt_cons_unit _ _ _ _ _ (tile_wb arg4 harg4 arg5 harg5 x2 x3 19 (by omega) _ _ y) ?_
    refine View.allAt_cons_unit _ _ _ _ _ (tile_wb arg4 harg4 arg5 harg5 x2 x3 18 (by omega) _ _ y) ?_
    refine View.allAt_cons_unit _ _ _ _ _ (tile_wb arg4 harg4 arg5 harg5 x2 x3 17 (by omega) _ _ y) ?_
    refine View.allAt_cons_unit _ _ _ _ _ (tile_wb arg4 harg4 arg5 harg5 x2 x3 16 (by omega) _ _ y) ?_
    refine View.allAt_cons_unit _ _ _ _ _ (tile_wb arg4 harg4 arg5 harg5 x2 x3 15 (by omega) _ _ y) ?_
    refine View.allAt_cons_unit _ _ _ _ _ (tile_wb arg4 harg4 arg5 harg5 x2 x3 14 (by omega) _ _ y) ?_
    refine View.allAt_cons_unit _ _ _ _ _ (tile_wb arg4 harg4 arg5 harg5 x2 x3 13 (by omega) _ _ y) ?_
    refine View.allAt_cons_unit _ _ _ _ _ (tile_wb arg4 harg4 arg5 harg5 x2 x3 12 (by omega) _ _ y) ?_
    refine View.allAt_cons_unit _ _ _ _ _ (tile_wb arg4 harg4 arg5 harg5 x2 x3 11 (by omega) _ _ y) ?_
    refine View.allAt_cons_unit _ _ _ _ _ (tile_wb arg4 harg4 arg5 harg5 x2 x3 10 (by omega) _ _ y) ?_
    refine View.allAt_cons_unit _ _ _ _ _ (tile_wb arg4 harg4 arg5 harg5 x2 x3 9 (by omega) _ _ y) ?_
    refine View.allAt_cons_unit _ _ _ _ _ (tile_wb arg4 harg4 arg5 harg5 x2 x3 8 (by omega) _ _ y) ?_
    refine View.allAt_cons_unit _ _ _ _ _ (tile_wb arg4 harg4 arg5 harg5 x2 x3 7 (by omega) _ _ y) ?_
    refine View.allAt_cons_unit _ _ _ _ _ (tile_wb arg4 harg4 arg5 harg5 x2 x3 6 (by omega) _ _ y) ?_
    refine View.allAt_cons_unit _ _ _ _ _ (tile_wb arg4 harg4 arg5 harg5 x2 x3 5 (by omega) _ _ y) ?_
    refine View.allAt_cons_unit _ _ _ _ _ (tile_wb arg4 harg4 arg5 harg5 x2 x3 4 (by omega) _ _ y) ?_
    refine View.allAt_cons_unit _ _ _ _ _ (tile_wb arg4 harg4 arg5 harg5 x2 x3 3 (by omega) _ _ y) ?_
    refine View.allAt_cons_unit _ _ _ _ _ (tile_wb arg4 harg4 arg5 harg5 x2 x3 2 (by omega) _ _ y) ?_
    refine View.allAt_cons_unit _ _ _ _ _ (tile_wb arg4 harg4 arg5 harg5 x2 x3 1 (by omega) _ _ y) ?_
    refine View.allAt_cons_unit _ _ _ _ _ (tile_wb arg4 harg4 arg5 harg5 x2 x3 0 (by omega) _ _ y) ?_
    exact View.allAt_nil _ _

/-- A load of a whole memref through its whole rectangle reads its contents. -/
theorem readAt_whole {sig : RefSig} {κ : Kind} {sp : Space} {s : Shape} {e : EltTy} {m : Memref sig κ sp s e} (h : m.IsWhole) (X : Vec F s e)
    {off : Fin s.rank → ℕ} (inb : ∀ a, off a + s.size a ≤ s.size a) :
    View.readAt (Elt F) m.view (Rect.unit off s.size inb).toLoadRect (h.unread X) = X := by
  rw [View.readAt_full]; exact h.read_unread X

set_option maxHeartbeats 4000000 in
/-- The output block's value at a point that is not the first of its row block. -/
theorem headB_val (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : ¬cond0_0 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x11 : Vec F S512x8192 .bf16) (x13 : Vec F S512x7168 .bf16) :
    (headB (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x11 x13).1 = k0_pay95 x11 (wbOf x2 x3) x4 x1 := by
  unfold headB
  dsimp only
  unfold headB.sl.v580
  rw [View.readCov_eq_canon', wb_canon]
  congr 1
  · exact readAt_whole harg11 x11 _
  · funext j; congr 1; exact Rect.emb_unit_full _ j
  · exact readAt_whole harg6 x4 _
  · exact readAt_whole harg3 x1 _

set_option maxHeartbeats 4000000 in
/-- The activation scratch and the output block's value at the first point of a row block. -/
theorem headA_val (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc0 : cond0_0 i)
    (x0 : Vec F S512x8192 .fp8e4m3) (x1 : Vec F S512x1 .f32) (x2 : Vec F S8192x512 .fp8e4m3) (x3 : Vec F S64x512 .bf16) (x4 : Vec F S512x512 .bf16) (x5 : Vec F S1x7168 .bf16) (x13 : Vec F S512x7168 .bf16) :
    (headA (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x13).1 = k0_pay13 x0
    ∧ (headA (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x13).2.1 = k0_pay95 (k0_pay13 x0) (wbOf x2 x3) x4 x1 := by
  unfold headA
  dsimp only
  have h : headA.sl.v606 c arg2 harg2 x0 = k0_pay13 x0 := by
    unfold headA.sl.v606
    exact congrArg k0_pay13 (readAt_whole harg2 x0 _)
  refine ⟨h, ?_⟩
  have h0 : headA.sl.H12_64 c arg4 harg4 arg5 harg5 x2 x3 = headB.sl.H12_64 c arg4 harg4 arg5 harg5 x2 x3 := rfl
  unfold headA.sl.v580 headA.sl.v579
  congr 1
  · unfold headA.sl.H11_1
    exact (View.readCov_full _ _ _ _ _).trans h
  · rw [View.readCov_eq_canon', h0, wb_canon]
    funext j; congr 1; exact Rect.emb_unit_full _ j
  · exact readAt_whole harg6 x4 _
  · exact readAt_whole harg3 x1 _

end Cert.KernelIdeal.Hand

end
-- ==== Proof.IdealLoopVal.lean ====
/- The values the counted loop leaves: the codes and the scales of a row block. -/
module

public import proofs.«01_k».proof.Proof.IdealLoop
public import proofs.«01_k».proof.Proof.IdealVals
public import Idealize.ShloMosaic.Lib.VecWindow
public import Idealize.ShloMosaic.Lib.WholeRead
public import Idealize.ShloMosaic.Lib.Pipeline.ValueKit.Tiles
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Thirty-two rows of a row block. -/
def rows32 (x13 : Vec F S512x7168 .bf16) (k : ℕ) (hk : k < 16) : Vec F S32x7168 .bf16 := fun j =>
  x13 (ValueIdx.ix2 ⟨32 * k + (j 0).val, by have := (j 0).isLt; simp at this; omega⟩ (j 1))

/-- The codes of thirty-two rows. -/
def codes32 (v : Vec F S32x7168 .bf16) (g : Vec F S1x7168 .bf16) : FVec F S32x7168 .fp8e4m3 :=
  k0_pay4 (k0_pay5 v g) (k0_pay11 (k0_pay6 v g) (k0_pay7 v g) (k0_pay8 v g) k0_pay9) (k0_pay12 (k0_pay6 v g) (k0_pay7 v g) (k0_pay8 v g) k0_pay9) 0#32

/-- The scales of thirty-two rows. -/
def scale32 (v : Vec F S32x7168 .bf16) (g : Vec F S1x7168 .bf16) : FVec F S32x1 .f32 :=
  k0_pay3 (k0_pay11 (k0_pay6 v g) (k0_pay7 v g) (k0_pay8 v g) k0_pay9) (k0_pay12 (k0_pay6 v g) (k0_pay7 v g) (k0_pay8 v g) k0_pay9) 0#32

/-- The codes of a row block, thirty-two rows at a time. -/
def codesOf (x13 : Vec F S512x7168 .bf16) (g : Vec F S1x7168 .bf16) : Vec F S512x7168 .fp8e4m3 := fun y =>
  codes32 (rows32 x13 ((y 0).val / 32) (by have := (y 0).isLt; simp at this; omega)) g (ValueIdx.ix2 ⟨(y 0).val % 32, Nat.mod_lt _ (by decide)⟩ (y 1))

/-- The scales of a row block, thirty-two rows at a time. -/
def scaleOf (x13 : Vec F S512x7168 .bf16) (g : Vec F S1x7168 .bf16) : Vec F S512x1 .f32 := fun y =>
  scale32 (rows32 x13 ((y 0).val / 32) (by have := (y 0).isLt; simp at this; omega)) g (ValueIdx.ix2 ⟨(y 0).val % 32, Nat.mod_lt _ (by decide)⟩ (y 1))

/-- The codes at a row of the thirty-two rows `n`. -/
theorem codesOf_at (x13 : Vec F S512x7168 .bf16) (g : Vec F S1x7168 .bf16) (n : ℕ) (hn : n < 16) (y : S512x7168.Idx) (z : S32x7168.Idx)
    (h0 : (y 0).val = 32 * n + (z 0).val) (h1 : (y 1).val = (z 1).val) : codesOf x13 g y = codes32 (rows32 x13 n hn) g z := by
  have hz0 : (z 0).val < 32 := (z 0).isLt
  have hq : (y 0).val / 32 = n := by omega
  subst hq
  refine congrArg (codes32 (rows32 x13 ((y 0).val / 32) hn) g) ?_
  funext a; apply Fin.ext
  match a with
  | ⟨0, _⟩ => show (y 0).val % 32 = (z 0).val; omega
  | ⟨1, _⟩ => exact h1

/-- The scales at a row of the thirty-two rows `n`. -/
theorem scaleOf_at (x13 : Vec F S512x7168 .bf16) (g : Vec F S1x7168 .bf16) (n : ℕ) (hn : n < 16) (y : S512x1.Idx) (z : S32x1.Idx)
    (h0 : (y 0).val = 32 * n + (z 0).val) (h1 : (y 1).val = (z 1).val) : scaleOf x13 g y = scale32 (rows32 x13 n hn) g z := by
  have hz0 : (z 0).val < 32 := (z 0).isLt
  have hq : (y 0).val / 32 = n := by omega
  subst hq
  refine congrArg (scale32 (rows32 x13 ((y 0).val / 32) hn) g) ?_
  funext a; apply Fin.ext
  match a with
  | ⟨0, _⟩ => show (y 0).val % 32 = (z 0).val; omega
  | ⟨1, _⟩ => exact h1

/-- Trip `k` of the loop reads and writes at row `32 k`. -/
theorem k0_off2_eq (k : Fin k0_t1_loop.trips) : k0_off2 k = ![32 * k.val, 0] := by
  have hk : k.val < 16 := Nat.lt_of_lt_of_le k.isLt k0_t1_abs.2.1
  funext a
  match a with
  | ⟨0, _⟩ =>
    show ((0#32 + BitVec.ofNat 32 k.val * 1#32) * 32#32).toNat = 32 * k.val
    simp only [BitVec.toNat_mul, BitVec.toNat_add, BitVec.toNat_ofNat]
    omega
  | ⟨1, _⟩ => rfl

/-- Trip `k` of the loop writes the scales at row `32 k`. -/
theorem k0_off3_eq (k : Fin k0_t1_loop.trips) : k0_off3 k = ![32 * k.val, 0] := k0_off2_eq k

/-- What trip `k` writes: the codes and the scales of its thirty-two rows. -/
theorem trip_val (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc1 : cond0_1 i)
    (x5 : Vec F S1x7168 .bf16) (x13 : Vec F S512x7168 .bf16) (k : Fin k0_t1_loop.trips) (hk : k.val < 16) :
    (tripL_k0_t1 (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) k).1
      = [⟨Rect.unit (s := S512x7168) (k0_off2 k) S32x7168.size (k0_off2_inb i k hc1), codes32 (rows32 x13 k.val hk) x5⟩]
    ∧ (tripL_k0_t1 (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) k).2
      = [⟨Rect.unit (s := S512x1) (k0_off3 k) S32x1.size (k0_off3_inb i k hc1), scale32 (rows32 x13 k.val hk) x5⟩] := by
  have e13 : View.readAt (Elt F) arg13.view (Rect.unit (s := S512x7168) (k0_off2 k) S32x7168.size (k0_off2_inb i k hc1)).toLoadRect (harg13.unread x13) = rows32 x13 k.val hk := by
    funext j
    rw [harg13.readAt_unread]
    unfold rows32; congr 1; funext a; apply Fin.ext
    have ho := k0_off2_eq k
    match a with
    | ⟨0, _⟩ => show (k0_off2 k) 0 + 1 * (j 0).val = 32 * k.val + (j 0).val; have h0 : k0_off2 k 0 = 32 * k.val := congrFun ho 0; omega
    | ⟨1, _⟩ => show (k0_off2 k) 1 + 1 * (j 1).val = (j 1).val; have h0 : k0_off2 k 1 = 0 := congrFun ho 1; omega
  have e7 : View.readAt (Elt F) arg7.view (Rect.unit (s := S1x7168) ![0, 0] S1x7168.size inb_S1x7168_S1x7168_0_0).toLoadRect (harg7.unread x5) = x5 := readAt_whole harg7 x5 _
  constructor
  · dsimp only [tripL_k0_t1]
    unfold trip_k0_t1
    unfold codes32
    rw [← e13]
    conv_rhs => rw [← e7]
    rfl
  · dsimp only [tripL_k0_t1]
    unfold trip_k0_t1
    unfold scale32
    rw [← e13]
    conv_rhs => rw [← e7]
    rfl

/-- Every piece the loop has written before trip `n` agrees with the row block's codes and scales, and the pieces cover the
    rows before `32 n`. -/
theorem pb_val (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc1 : cond0_1 i)
    (x5 : Vec F S1x7168 .bf16) (x13 : Vec F S512x7168 .bf16) (n : ℕ) (hn : n ≤ k0_t1_loop.trips) :
    (∀ y, View.AllAt (pb_k0_t1 (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) n).1 y (codesOf x13 x5 y))
    ∧ (∀ y : S512x7168.Idx, (y 0).val < 32 * n → ∃ p ∈ (pb_k0_t1 (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) n).1, y ∈ p.1.set)
    ∧ (∀ y, View.AllAt (pb_k0_t1 (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) n).2 y (scaleOf x13 x5 y))
    ∧ (∀ y : S512x1.Idx, (y 0).val < 32 * n → ∃ p ∈ (pb_k0_t1 (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) n).2, y ∈ p.1.set) := by
  induction n with
  | zero =>
    refine ⟨fun y => View.allAt_nil _ _, fun y h => absurd h (by omega), fun y => View.allAt_nil _ _, fun y h => absurd h (by omega)⟩
  | succ n ih =>
    obtain ⟨h1, h2, h3, h4⟩ := ih (by omega)
    have hk : n < 16 := by have := k0_t1_abs.2.1; omega
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 hc1 (harg7.unread x5) (harg13.unread x13) ⟨n, by omega⟩
    have t := trip_val c i arg2 harg2 arg3 harg3 arg4 harg4 arg5 harg5 arg6 harg6 arg7 harg7 arg8 harg8 arg9 harg9 arg10 harg10 arg11 harg11 arg12 harg12 arg13 harg13 hc1 x5 x13 ⟨n, by omega⟩ hk
    have e1 := congrArg Prod.fst e
    have e2 := congrArg Prod.snd e
    rw [t.1, t.2] at e1 e2
    dsimp only [List.cons_append, List.nil_append] at e1 e2
    rw [e1, e2]
    have ho2 := k0_off2_eq ⟨n, by omega⟩
    have ho3 := k0_off3_eq ⟨n, by omega⟩
    refine ⟨fun y => ?_, fun y hy => ?_, fun y => ?_, fun y hy => ?_⟩
    · refine View.allAt_cons_unit _ _ _ _ _ ?_ (h1 y)
      intro z hz
      have g0 : (y 0).val = 32 * n + (z 0).val := (hz 0).trans (by rw [ho2]; rfl)
      have g1 : (y 1).val = (z 1).val := (hz 1).trans (by rw [ho2]; exact Nat.zero_add _)
      have hz0 : (z 0).val < 32 := (z 0).isLt
      exact (codesOf_at x13 x5 n hk y z g0 g1).symm
    · by_cases hy' : (y 0).val < 32 * n
      · obtain ⟨p, hp, hm⟩ := h2 y hy'
        exact ⟨p, List.mem_cons_of_mem _ hp, hm⟩
      · refine ⟨_, List.mem_cons_self, ?_⟩
        have hy1 : (y 1).val < 7168 := (y 1).isLt
        refine (Rect.mem_set_unit (inb := k0_off2_inb i ⟨n, by omega⟩ hc1)).mpr fun a => ?_
        rw [ho2]
        match a with
        | ⟨0, _⟩ => show 32 * n ≤ (y 0).val ∧ (y 0).val < 32 * n + 32; change (y 0).val < 32 * (n + 1) at hy; omega
        | ⟨1, _⟩ => show 0 ≤ (y 1).val ∧ (y 1).val < 0 + 7168; omega
    · refine View.allAt_cons_unit _ _ _ _ _ ?_ (h3 y)
      intro z hz
      have g0 : (y 0).val = 32 * n + (z 0).val := (hz 0).trans (by rw [ho3]; rfl)
      have g1 : (y 1).val = (z 1).val := (hz 1).trans (by rw [ho3]; exact Nat.zero_add _)
      have hz0 : (z 0).val < 32 := (z 0).isLt
      exact (scaleOf_at x13 x5 n hk y z g0 g1).symm
    · by_cases hy' : (y 0).val < 32 * n
      · obtain ⟨p, hp, hm⟩ := h4 y hy'
        exact ⟨p, List.mem_cons_of_mem _ hp, hm⟩
      · refine ⟨_, List.mem_cons_self, ?_⟩
        have hy1 : (y 1).val < 1 := (y 1).isLt
        refine (Rect.mem_set_unit (inb := k0_off3_inb i ⟨n, by omega⟩ hc1)).mpr fun a => ?_
        rw [ho3]
        match a with
        | ⟨0, _⟩ => show 32 * n ≤ (y 0).val ∧ (y 0).val < 32 * n + 32; change (y 0).val < 32 * (n + 1) at hy; omega
        | ⟨1, _⟩ => show 0 ≤ (y 1).val ∧ (y 1).val < 0 + 1; omega

/-- After the loop the codes and the scales of the row block are read, whatever was there before. -/
theorem loop_val (c : Dev nD) (i : grid0.Coords) (arg2 : Memref sig .tc .vmem S512x8192 .fp8e4m3) (harg2 : arg2.IsWhole) (arg3 : Memref sig .tc .vmem S512x1 .f32) (harg3 : arg3.IsWhole) (arg4 : Memref sig .tc .vmem S8192x512 .fp8e4m3) (harg4 : arg4.IsWhole) (arg5 : Memref sig .tc .vmem S64x512 .bf16) (harg5 : arg5.IsWhole) (arg6 : Memref sig .tc .vmem S512x512 .bf16) (harg6 : arg6.IsWhole) (arg7 : Memref sig .tc .vmem S1x7168 .bf16) (harg7 : arg7.IsWhole) (arg8 : Memref sig .tc .vmem S512x512 .bf16) (harg8 : arg8.IsWhole) (arg9 : Memref sig .tc .vmem S512x7168 .fp8e4m3) (harg9 : arg9.IsWhole) (arg10 : Memref sig .tc .vmem S512x1 .f32) (harg10 : arg10.IsWhole) (arg11 : Memref sig .tc .vmem S512x8192 .bf16) (harg11 : arg11.IsWhole) (arg12 : Memref sig .tc .vmem S8192x512 .bf16) (harg12 : arg12.IsWhole) (arg13 : Memref sig .tc .vmem S512x7168 .bf16) (harg13 : arg13.IsWhole) (hc1 : cond0_1 i)
    (x5 : Vec F S1x7168 .bf16) (x13 : Vec F S512x7168 .bf16) :
    (∀ f, arg9.view.read (Elt F) (arg9.view.writes (Elt F) f (loopRun (F := F) c i arg2 harg2 arg3 harg3 arg4 harg4 arg5 harg5 arg6 harg6 arg7 harg7 arg8 harg8 arg9 harg9 arg10 harg10 arg11 harg11 arg12 harg12 arg13 harg13 hc1 x5 x13).1) = codesOf x13 x5)
    ∧ (∀ f, arg10.view.read (Elt F) (arg10.view.writes (Elt F) f (loopRun (F := F) c i arg2 harg2 arg3 harg3 arg4 harg4 arg5 harg5 arg6 harg6 arg7 harg7 arg8 harg8 arg9 harg9 arg10 harg10 arg11 harg11 arg12 harg12 arg13 harg13 hc1 x5 x13).2.1) = scaleOf x13 x5) := by
  have ht : k0_t1_loop.trips = 16 := by decide
  obtain ⟨h1, h2, h3, h4⟩ := pb_val c i arg2 harg2 arg3 harg3 arg4 harg4 arg5 harg5 arg6 harg6 arg7 harg7 arg8 harg8 arg9 harg9 arg10 harg10 arg11 harg11 arg12 harg12 arg13 harg13 hc1 x5 x13 k0_t1_loop.trips le_rfl
  have c2 := fun y : S512x7168.Idx => h2 y (by have : (y 0).val < 512 := (y 0).isLt; omega)
  have c4 := fun y : S512x1.Idx => h4 y (by have : (y 0).val < 512 := (y 0).isLt; omega)
  unfold loopRun
  constructor
  · intro f
    refine (View.read_writes_eq_canon _ f _ c2).trans (funext fun y => View.canon_eq_of_allAt _ y _ (c2 y) (h1 y))
  · intro f
    refine (View.read_writes_eq_canon _ f _ c4).trans (funext fun y => View.canon_eq_of_allAt _ y _ (c4 y) (h3 y))

end Cert.KernelIdeal.Hand

end
-- ==== Proof.IdealScalar.lean ====
module
public import proofs.«01_k».proof.Proof.IdealLoopVal
public import Idealize.ShloMosaic.Lib.Pointwise
public import Idealize.ShloMosaic.PureOps.Ideal.Laws
@[expose] public section
set_option maxRecDepth 16384
noncomputable section
namespace Cert.KernelIdeal.Hand
open Idealize.ShloMosaic Cert.KernelIdeal.Gen
variable {F : FTy → Type} [FloatOps F] [Named F]

/-- One step of the search for the exponent field of `b`: `s` is added when the power of two with
    field `f + s` is no more than `b`. -/
def stp (b : F .f32) (s f : BitVec 32) : BitVec 32 :=
  Scalar.select (FloatOps.cmpf .oge b (FloatOps.ofBits .f32 (IntOp.shli .vector (IntOp.addi f s) 23#32))) (IntOp.addi f s) f

/-- The exponent field of `b`, found by eight comparisons; 255 when `b` is no number. -/
def field (b : F .f32) : BitVec 32 :=
  Scalar.select (FloatOps.cmpf .one b b) 255#32
    (stp b 1#32 (stp b 2#32 (stp b 4#32 (stp b 8#32 (stp b 16#32 (stp b 32#32 (stp b 64#32 (stp b 128#32 0#32))))))))

/-- The exponent of the power-of-two scale. -/
def eW (b : F .f32) : BitVec 32 :=
  Scalar.select (IntOp.cmpi .slt (field b) 1#32) 0#32 (IntOp.subi (field b) 126#32)

/-- The field vector of the kernel, entry by entry. -/
theorem field_at (v : Vec F S32x7168 .bf16) (g : Vec F S1x7168 .bf16) (j : S32x1.Idx) :
    k0_pay10 (k0_pay6 v g) (k0_pay7 v g) (k0_pay8 v g) k0_pay9 j = field (k0_pay6 v g j) := rfl

/-- One code before its cast: the entry times the power of two with field `127 - e`, clipped. -/
def kcode (x b : F .f32) : F .f32 :=
  FloatOps.minimumf (FloatOps.ofBits .f32 0x43E00000#32) (FloatOps.maximumf (FloatOps.ofBits .f32 0xC3E00000#32)
    (FloatOps.mulf x (FloatOps.ofBits .f32 (IntOp.shli .vector (IntOp.subi 127#32 (eW b)) 23#32))))

/-- The scale of a token: the power of two with field `e + 127`. -/
def kscale (b : F .f32) : F .f32 := FloatOps.ofBits .f32 (IntOp.shli .vector (IntOp.addi (eW b) 127#32) 23#32)

/-- The exponent vector, entry by entry. -/
theorem pay2_at (v : Vec F S32x7168 .bf16) (g : Vec F S1x7168 .bf16) (j : S32x1.Idx) :
    k0_pay2 (k0_pay11 (k0_pay6 v g) (k0_pay7 v g) (k0_pay8 v g) k0_pay9) (k0_pay12 (k0_pay6 v g) (k0_pay7 v g) (k0_pay8 v g) k0_pay9) 0#32 j
      = eW (k0_pay6 v g j) := rfl

/-- The scales, entry by entry. -/
theorem scale32_at (v : Vec F S32x7168 .bf16) (g : Vec F S1x7168 .bf16) (j : S32x1.Idx) :
    scale32 v g j = kscale (k0_pay6 v g j) := rfl

/-- The codes of a chunk, from the entries and the exponents. -/
theorem pay4_at (x : FVec F S32x7168 .f32) (a : IVec S32x1 32) (b : IVec S32x1 1) (j : S32x7168.Idx) :
    k0_pay4 x a b 0#32 j = FloatOps.truncf .fp8e4m3 bitsLt_fp8e4m3_f32
      (FloatOps.minimumf (FloatOps.ofBits .f32 0x43E00000#32) (FloatOps.maximumf (FloatOps.ofBits .f32 0xC3E00000#32)
        (FloatOps.mulf (x j) (FloatOps.ofBits .f32 (IntOp.shli .vector (IntOp.subi 127#32 (k0_pay2 a b 0#32 (ix2 (j 0) 0))) 23#32))))) := by
  pointwise [k0_pay4]

/-- The codes, entry by entry. -/
theorem codes32_at (v : Vec F S32x7168 .bf16) (g : Vec F S1x7168 .bf16) (j : S32x7168.Idx) :
    codes32 v g j = FloatOps.truncf .fp8e4m3 bitsLt_fp8e4m3_f32 (kcode (k0_pay5 v g j) (k0_pay6 v g (ix2 (j 0) 0))) := by
  unfold codes32 kcode
  rw [pay4_at, pay2_at]
-- ==== Proof.RefScalar.lean ====
module
public import proofs.«01_k».proof.Proof.Gen.ReferenceIdeal.Frame
public import Idealize.ShloMosaic.Lib.Pointwise
public import Idealize.ShloMosaic.PureOps.Ideal.Laws
@[expose] public section
set_option maxRecDepth 16384
set_option maxHeartbeats 40000
noncomputable section
namespace Cert.ReferenceIdeal.Hand
open Idealize.ShloMosaic Cert.ReferenceIdeal.Gen
variable {F : FTy → Type} [FloatOps F]

/-- The reference's exponent of one token, from the token's scale before rounding. -/
def rexp (b : F .f32) : F .f32 :=
  Scalar.select (FloatOps.cmpf .olt b (FloatOps.ofBits .f32 0x00800000#32)) (FloatOps.ofBits .f32 0x00000000#32)
    (FloatOps.addf (FloatOps.floor (FloatOps.divf (FloatOps.log b) (Scalar.log (Scalar.ofBits .f32 0x40000000#32))))
      (FloatOps.ofBits .f32 0x3F800000#32))

/-- The reference's code of one entry, before the last cast, from the entry and its token's exponent. -/
def rcode (x e : F .f32) : F .f32 :=
  FloatOps.minimumf (FloatOps.ofBits .f32 0x43E00000#32) (FloatOps.maximumf (FloatOps.ofBits .f32 0xC3E00000#32)
    (FloatOps.mulf x (FloatOps.exp2 (FloatOps.subf (FloatOps.ofBits .f32 0x00000000#32) e))))

/-- Each token's largest entry over the largest fp8 value: the scale before rounding. -/
def bvec (v : FVec F S24576x7168 .f32) : FVec F S24576x1 .f32 :=
  mulf (shapeCast S24576x1 (multiReduction .maximumf [1] S24576 v 0xFF800000#32 reduces_S24576x7168_S24576 (.inl rfl) rfl) shapeCasts_S24576_S24576x1)
    (broadcast S24576x1 (Scalar.ofBits .f32 0x3B124925#32))

/-- The exponent vector, entry by entry. -/
theorem pay1_at (v : FVec F S24576x7168 .f32) (j : S24576x1.Idx) : k0_pay1 v j = rexp (bvec v j) := rfl

/-- The scale vector, entry by entry. -/
theorem pay3_at (v : FVec F S24576x7168 .f32) (j : S24576x1.Idx) : k0_pay3 v j = FloatOps.exp2 (k0_pay1 v j) := rfl

/-- The codes, entry by entry. -/
theorem pay2_at (v w : FVec F S24576x7168 .f32) (j : S24576x7168.Idx) :
    k0_pay2 v w j = FloatOps.truncf .fp8e4m3 bitsLt_fp8e4m3_f32 (rcode (v j) (k0_pay1 w (ix2 (j 0) 0))) := by
  unfold rcode
  pointwise [k0_pay2]

/-- The scale before rounding, entry by entry. -/
theorem bvec_gen (v : FVec F S24576x7168 .f32) (j : S24576x1.Idx) : bvec v j =
    FloatOps.mulf (multiReduction .maximumf [1] S24576 v 0xFF800000#32 reduces_S24576x7168_S24576 (.inl rfl) rfl (ix1 (j 0)))
      (FloatOps.ofBits .f32 0x3B124925#32) := by
  pointwise [bvec]

/-- The largest entry of one token, at the extended reals. -/
theorem max_at (v : FVec Ideal S24576x7168 .f32) (j : S24576.Idx) :
    multiReduction (F := Ideal) .maximumf [1] S24576 v 0xFF800000#32 reduces_S24576x7168_S24576 (.inl rfl) rfl j =
      Finset.fold max (Ideal.ofBits FTy.f32 4286578688#32) (fun x => v (ix2 (j 0) x)) Finset.univ := by
  simp only [pointwise]

/-- The scale before rounding of one token, at the extended reals. -/
theorem bvec_at (v : FVec Ideal S24576x7168 .f32) (j : S24576x1.Idx) : bvec (F := Ideal) v j =
    Finset.fold max (Ideal.ofBits FTy.f32 4286578688#32) (fun x => v (ix2 (j 0) x)) Finset.univ * Ideal.ofBits FTy.f32 991054117#32 :=
  (bvec_gen v j).trans (congrArg (fun z : EReal => z * Ideal.ofBits FTy.f32 991054117#32) (max_at v (ix1 (j 0))))
-- ==== Proof.ExpMath.lean ====
/- The exponent of a power-of-two scale: the field found by comparisons is the one the logarithm gives. -/
module
public import proofs.«01_k».proof.Proof.IdealScalar
public import proofs.«01_k».proof.Proof.RefScalar
@[expose] public section
set_option maxRecDepth 16384
noncomputable section
namespace Cert.Math
open Idealize.ShloMosaic

/-- The float of the word with field `x` and nothing else. -/
def W (x : BitVec 32) : EReal := Ideal.ofBits .f32 (IntOp.shli .vector x 23#32)

/-- The value of a float with exponent field `n` and no fraction, below field 255. -/
def V (n : ℕ) : EReal := if n = 0 then 0 else (((2:ℝ) ^ ((n:ℤ) - 127) : ℝ) : EReal)

/-- The three fields of the word with exponent field `n`: sign zero, exponent `n`, fraction zero. -/
theorem fields : ∀ n : Fin 256,
    (IntOp.shli ArithUnit.vector (BitVec.ofNat 32 n.val) 23#32).extractLsb' (8+23) 1 = 0#1 ∧
    ((IntOp.shli ArithUnit.vector (BitVec.ofNat 32 n.val) 23#32).extractLsb' 23 8).toNat = n.val ∧
    ((IntOp.shli ArithUnit.vector (BitVec.ofNat 32 n.val) 23#32).extractLsb' 0 23).toNat = 0 := by
  decide +kernel

/-- A power of two splits off `2^23`. -/
theorem split23 (k : ℤ) : (2:ℝ) ^ k = 8388608 * (2:ℝ) ^ (k - 23) := by
  rw [zpow_sub₀ (by norm_num : (2:ℝ) ≠ 0)]
  norm_num
  field_simp

/-- Below field 255 the word with exponent field `n` has the value `V n`. -/
theorem W_eq (n : ℕ) (h : n ≤ 254) : W (BitVec.ofNat 32 n) = V n := by
  obtain ⟨h1, h2, h3⟩ := fields ⟨n, by omega⟩
  show Ideal.ieee 8 23 _ = _
  unfold Ideal.ieee
  simp only [h1, h2, h3]
  unfold V
  by_cases hn : n = 0
  · subst hn; simp
  · have : n ≠ 255 := by omega
    simp [hn, this]
    exact (EReal.coe_mul _ _).symm.trans (congrArg Real.toEReal (split23 _).symm)

/-- The word with exponent field 255 is infinity. -/
theorem W_top : W 255#32 = ⊤ := by
  obtain ⟨h1, h2, h3⟩ := fields ⟨255, by omega⟩
  show Ideal.ieee 8 23 (IntOp.shli ArithUnit.vector (BitVec.ofNat 32 255) 23#32) = _
  unfold Ideal.ieee
  simp only [h1, h2, h3]
  simp

/-- The values grow with the field. -/
theorem V_mono {a b : ℕ} (h : a ≤ b) : V a ≤ V b := by
  unfold V
  by_cases ha : a = 0
  · subst ha
    by_cases hb : b = 0
    · simp [hb]
    · simp only [hb, if_true, if_false]
      exact_mod_cast (zpow_pos (by norm_num : (0:ℝ) < 2) _).le
  · have hb : b ≠ 0 := by omega
    simp only [ha, hb, if_false]
    refine EReal.coe_le_coe_iff.2 ?_
    exact zpow_le_zpow_right₀ (by norm_num) (by omega)

/-- Every value is finite. -/
theorem V_lt_top (a : ℕ) : V a < ⊤ := by
  unfold V
  split
  · exact EReal.zero_lt_top
  · exact EReal.coe_lt_top _

/-- A select on a comparison "at least" is a choice. -/
theorem select_oge (a b : EReal) (x y : BitVec 32) :
    Scalar.select (FloatOps.cmpf (F := Ideal) (φ := .f32) .oge a b) x y = if b ≤ a then x else y := by
  by_cases h : b ≤ a
  · simp [Scalar.select, Ideal.cmpf_def, Ideal.cmp, h]
  · simp [Scalar.select, Ideal.cmpf_def, Ideal.cmp, h]

/-- One step of the search halves the range that the field of `b` lies in. -/
theorem stp_eq (b : EReal) (hb : b < V 253) (f s : ℕ) (hs : f + s ≤ 255) (h1 : V f ≤ b) (h2 : b < V (f + 2 * s)) :
    ∃ f', (f' = f ∨ f' = f + s) ∧ V f' ≤ b ∧ b < V (f' + s) ∧
      KernelIdeal.Hand.stp (F := Ideal) b (BitVec.ofNat 32 s) (BitVec.ofNat 32 f) = BitVec.ofNat 32 f' := by
  have hadd : IntOp.addi (BitVec.ofNat 32 f) (BitVec.ofNat 32 s) = BitVec.ofNat 32 (f + s) := by
    show BitVec.ofNat 32 f + BitVec.ofNat 32 s = _
    rw [BitVec.ofNat_add]
  have hst : KernelIdeal.Hand.stp (F := Ideal) b (BitVec.ofNat 32 s) (BitVec.ofNat 32 f) =
      if W (BitVec.ofNat 32 (f + s)) ≤ b then BitVec.ofNat 32 (f + s) else BitVec.ofNat 32 f := by
    unfold KernelIdeal.Hand.stp
    rw [hadd]
    exact select_oge _ _ _ _
  rw [hst]
  by_cases h255 : f + s = 255
  · have hw : W (BitVec.ofNat 32 (f + s)) = ⊤ := by rw [h255]; exact W_top
    have hn : ¬ W (BitVec.ofNat 32 (f + s)) ≤ b := by
      rw [hw, not_le]
      exact hb.trans (V_lt_top _)
    exact ⟨f, .inl rfl, h1, hb.trans_le (V_mono (by omega)), if_neg hn⟩
  · have hw := W_eq (f + s) (by omega)
    by_cases hc : W (BitVec.ofNat 32 (f + s)) ≤ b
    · exact ⟨f + s, .inr rfl, hw ▸ hc, by rwa [show f + s + s = f + 2 * s by ring], if_pos hc⟩
    · exact ⟨f, .inl rfl, h1, by rw [← hw]; exact not_le.1 hc, if_neg hc⟩

/-- The search finds the field: the largest `n` whose power of two is no more than `b`. -/
theorem field_spec (b : EReal) (h0 : 0 ≤ b) (hb : b < V 253) :
    ∃ n, n ≤ 252 ∧ V n ≤ b ∧ b < V (n + 1) ∧ KernelIdeal.Hand.field (F := Ideal) b = BitVec.ofNat 32 n := by
  obtain ⟨f1, g1, a1, b1, c1⟩ := stp_eq b hb 0 128 (by omega) (by simpa [V] using h0) (hb.trans_le (V_mono (by omega)))
  obtain ⟨f2, g2, a2, b2, c2⟩ := stp_eq b hb f1 64 (by omega) a1 b1
  obtain ⟨f3, g3, a3, b3, c3⟩ := stp_eq b hb f2 32 (by omega) a2 b2
  obtain ⟨f4, g4, a4, b4, c4⟩ := stp_eq b hb f3 16 (by omega) a3 b3
  obtain ⟨f5, g5, a5, b5, c5⟩ := stp_eq b hb f4 8 (by omega) a4 b4
  obtain ⟨f6, g6, a6, b6, c6⟩ := stp_eq b hb f5 4 (by omega) a5 b5
  obtain ⟨f7, g7, a7, b7, c7⟩ := stp_eq b hb f6 2 (by omega) a6 b6
  obtain ⟨f8, g8, a8, b8, c8⟩ := stp_eq b hb f7 1 (by omega) a7 b7
  have hn : f8 < 253 := by
    by_contra h
    exact absurd (hb.trans_le ((V_mono (by omega)).trans a8)) (lt_irrefl _)
  refine ⟨f8, by omega, a8, b8, ?_⟩
  have hone : ∀ x y : BitVec 32, Scalar.select (FloatOps.cmpf (F := Ideal) (φ := .f32) .one b b) x y = y := by
    intro x y
    simp [Scalar.select, Ideal.cmpf_def, Ideal.cmp]
  unfold KernelIdeal.Hand.field
  rw [hone]
  have e := c8
  rw [← c7, ← c6, ← c5, ← c4, ← c3, ← c2, ← c1] at e
  exact e

/-- The two fields the kernel builds from the field `n`, checked for all 253 of them. -/
theorem words : ∀ n : Fin 253,
    IntOp.addi (Scalar.select (IntOp.cmpi .slt (BitVec.ofNat 32 n.val) 1#32) 0#32 (IntOp.subi (BitVec.ofNat 32 n.val) 126#32)) 127#32
      = BitVec.ofNat 32 (if n.val = 0 then 127 else n.val + 1) ∧
    IntOp.subi 127#32 (Scalar.select (IntOp.cmpi .slt (BitVec.ofNat 32 n.val) 1#32) 0#32 (IntOp.subi (BitVec.ofNat 32 n.val) 126#32))
      = BitVec.ofNat 32 (if n.val = 0 then 127 else 253 - n.val) := by
  decide +kernel

/-- The two words the kernel builds from the field. -/
theorem kwords (b : EReal) (n : ℕ) (hn : n ≤ 252) (hf : KernelIdeal.Hand.field (F := Ideal) b = BitVec.ofNat 32 n) :
    W (IntOp.addi (KernelIdeal.Hand.eW (F := Ideal) b) 127#32) = (((2:ℝ) ^ (if n = 0 then 0 else (n:ℤ) - 126) : ℝ) : EReal) ∧
    W (IntOp.subi 127#32 (KernelIdeal.Hand.eW (F := Ideal) b)) = (((2:ℝ) ^ (if n = 0 then 0 else 126 - (n:ℤ)) : ℝ) : EReal) := by
  obtain ⟨h1, h2⟩ := words ⟨n, by omega⟩
  unfold KernelIdeal.Hand.eW
  rw [hf]
  constructor
  · refine (congrArg W h1).trans ?_
    rw [W_eq _ (by dsimp only; split <;> omega)]
    by_cases h : n = 0
    · subst h; simp [V]
    · simp only [h, if_false, V]
      rw [if_neg (by omega)]
      congr 2
      push_cast; ring
  · refine (congrArg W h2).trans ?_
    rw [W_eq _ (by dsimp only; split <;> omega)]
    by_cases h : n = 0
    · subst h; simp [V]
    · simp only [h, if_false, V]
      rw [if_neg (by omega)]
      congr 2
      omega

/-- A select on a comparison "less than" is a choice. -/
theorem sel_olt (a b : EReal) (x y : EReal) :
    Scalar.select (FloatOps.cmpf (F := Ideal) (φ := .f32) .olt a b) x y = if a < b then x else y := by
  by_cases h : a < b
  · simp [Scalar.select, Ideal.cmpf_def, Ideal.cmp, h]
  · simp [Scalar.select, Ideal.cmpf_def, Ideal.cmp, h]

/-- The word of 2. -/
theorem two_word : Ideal.ofBits .f32 0x40000000#32 = ((2:ℝ) : EReal) :=
  (W_eq 128 (by omega)).trans (by norm_num [V])
/-- The word of 1. -/
theorem one_word : Ideal.ofBits .f32 0x3F800000#32 = ((1:ℝ) : EReal) :=
  (W_eq 127 (by omega)).trans (by norm_num [V])
/-- The word of the least normal number. -/
theorem min_word : Ideal.ofBits .f32 0x00800000#32 = V 1 := W_eq 1 (by omega)

/-- The reference's exponent in terms of the field. -/
theorem rexp_eq (b : EReal) (n : ℕ) (h1 : V n ≤ b) (h2 : b < V (n + 1)) :
    ReferenceIdeal.Hand.rexp (F := Ideal) b = (((if n = 0 then 0 else (n:ℤ) - 126 : ℤ) : ℝ) : EReal) := by
  have hsel : ReferenceIdeal.Hand.rexp (F := Ideal) b = if b < Ideal.ofBits .f32 0x00800000#32 then Ideal.ofBits .f32 0x00000000#32
      else Ideal.liftRound Int.floor (Ideal.div (Ideal.log b) (Ideal.log (Ideal.ofBits .f32 0x40000000#32))) + Ideal.ofBits .f32 0x3F800000#32 :=
    sel_olt _ _ _ _
  rw [hsel, min_word]
  by_cases hn : n = 0
  · subst hn
    rw [if_pos (by simpa using h2), Ideal.ofBits_zero_f32]
    simp
  · rw [if_neg (not_lt.2 ((V_mono (by omega : 1 ≤ n)).trans h1)), two_word, one_word]
    have hbt : b ≠ ⊤ := (h2.trans (V_lt_top _)).ne
    have hV : V n = (((2:ℝ) ^ ((n:ℤ) - 127) : ℝ) : EReal) := by unfold V; rw [if_neg hn]
    have hV1 : V (n+1) = (((2:ℝ) ^ ((n:ℤ) - 126) : ℝ) : EReal) := by
      unfold V; rw [if_neg (by omega)]; congr 2; push_cast; ring
    rw [hV] at h1
    rw [hV1] at h2
    have hbb : b ≠ ⊥ := by
      rintro rfl
      exact absurd h1 (by simp)
    lift b to ℝ using ⟨hbt, hbb⟩
    have h1' : (2:ℝ) ^ ((n:ℤ) - 127) ≤ b := EReal.coe_le_coe_iff.1 h1
    have h2' : b < (2:ℝ) ^ ((n:ℤ) - 126) := EReal.coe_lt_coe_iff.1 h2
    have hpos : 0 < b := lt_of_lt_of_le (zpow_pos (by norm_num) _) h1'
    have hl2 : 0 < Real.log 2 := Real.log_pos (by norm_num)
    have hlb : Ideal.log (b : EReal) = ((Real.log b : ℝ) : EReal) := by
      show (if b ≤ 0 then (⊥ : EReal) else ((Real.log b : ℝ) : EReal)) = _
      rw [if_neg (not_le.2 hpos)]
    have hlt : Ideal.log ((2:ℝ) : EReal) = ((Real.log 2 : ℝ) : EReal) := by
      show (if (2:ℝ) ≤ 0 then (⊥ : EReal) else ((Real.log 2 : ℝ) : EReal)) = _
      rw [if_neg (by norm_num)]
    rw [hlb, hlt, Ideal.div_coe (x := ((Real.log b : ℝ) : EReal)) hl2.ne', ← EReal.coe_mul]
    have hfl : ⌊Real.log b * (1 / Real.log 2)⌋ = (n:ℤ) - 127 := by
      rw [Int.floor_eq_iff]
      rw [mul_one_div, le_div_iff₀ hl2, div_lt_iff₀ hl2]
      constructor
      · rw [← Real.log_zpow]
        exact Real.log_le_log (zpow_pos (by norm_num) _) h1'
      · have : (((n:ℤ) - 127 : ℤ) : ℝ) + 1 = (((n:ℤ) - 126 : ℤ) : ℝ) := by push_cast; ring
        rw [this, ← Real.log_zpow]
        exact Real.log_lt_log hpos h2'
    have hlr : Ideal.liftRound Int.floor (((Real.log b * (1 / Real.log 2) : ℝ)) : EReal) = ((((n:ℤ) - 127 : ℤ) : ℝ) : EReal) := by
      show (((⌊Real.log b * (1 / Real.log 2)⌋ : ℤ) : ℝ) : EReal) = _
      rw [hfl]
    rw [hlr, ← EReal.coe_add]
    congr 1
    rw [if_neg hn]
    push_cast; ring

/-- Two to an integer. -/
theorem exp2_int (k : ℤ) : Ideal.exp2 (((k : ℤ) : ℝ) : EReal) = (((2:ℝ) ^ k : ℝ) : EReal) := by
  rw [Ideal.exp2_coe]
  congr 1
  exact Real.rpow_intCast 2 k

/-- The kernel's scale and inverse scale are the reference's. -/
theorem scale_eq (b : EReal) (h0 : 0 ≤ b) (hb : b < V 253) :
    W (IntOp.addi (KernelIdeal.Hand.eW (F := Ideal) b) 127#32) = Ideal.exp2 (ReferenceIdeal.Hand.rexp (F := Ideal) b) ∧
    W (IntOp.subi 127#32 (KernelIdeal.Hand.eW (F := Ideal) b)) =
      Ideal.exp2 (Ideal.ofBits .f32 0x00000000#32 - ReferenceIdeal.Hand.rexp (F := Ideal) b) := by
  obtain ⟨n, hn, h1, h2, hf⟩ := field_spec b h0 hb
  obtain ⟨w1, w2⟩ := kwords b n hn hf
  rw [w1, w2, rexp_eq b n h1 h2, exp2_int, Ideal.ofBits_zero_f32]
  refine ⟨rfl, ?_⟩
  have : (0 : EReal) - (((if n = 0 then 0 else (n:ℤ) - 126 : ℤ) : ℝ) : EReal) = (((if n = 0 then 0 else 126 - (n:ℤ) : ℤ) : ℝ) : EReal) := by
    rw [← EReal.coe_zero, ← EReal.coe_sub]
    congr 1
    split <;> push_cast <;> ring
  rw [this, exp2_int]
-- ==== Proof.NormMath.lean ====
/- The norm and the largest entry of a token: the two means agree, and the largest entry is bounded. -/
module
public import proofs.«01_k».proof.Proof.ExpMath
@[expose] public section
set_option maxRecDepth 16384
noncomputable section
namespace Cert.Math
open Idealize.ShloMosaic

/-- The word of 7168. -/
theorem d_word : Ideal.ofBits .f32 0x45E00000#32 = ((7168:ℝ) : EReal) := by
  show Ideal.ieee 8 23 (0x45E00000#32 : BitVec 32) = _
  unfold Ideal.ieee
  simp
  rw [← EReal.coe_mul]
  norm_num
/-- The word of the norm's offset is a positive real. -/
theorem eps_word : ∃ e : ℝ, 0 < e ∧ Ideal.ofBits .f32 0x3727C5AC#32 = (e : EReal) := by
  refine ⟨10995116 * 2 ^ (-40 : ℤ), by positivity, ?_⟩
  show Ideal.ieee 8 23 (0x3727C5AC#32 : BitVec 32) = _
  unfold Ideal.ieee
  simp
/-- The word of the rounded 1/448. -/
theorem c_word : Ideal.ofBits .f32 0x3B124925#32 = ((9586981 * 2 ^ (-32 : ℤ) : ℝ) : EReal) := by
  show Ideal.ieee 8 23 (0x3B124925#32 : BitVec 32) = _
  unfold Ideal.ieee
  simp
/-- The word of minus infinity. -/
theorem bot_word : Ideal.ofBits .f32 0xFF800000#32 = ⊥ := by
  show Ideal.ieee 8 23 (0xFF800000#32 : BitVec 32) = _
  unfold Ideal.ieee
  simp
/-- The word of the largest finite bf16. -/
theorem hi_word : Ideal.ofBits .bf16 0x7F7F#16 = ((255 * 2 ^ (120 : ℤ) : ℝ) : EReal) := by
  show Ideal.ieee 8 7 (0x7F7F#16 : BitVec 16) = _
  unfold Ideal.ieee
  simp
/-- The word of the least finite bf16. -/
theorem lo_word : Ideal.ofBits .bf16 0xFF7F#16 = ((-(255 * 2 ^ (120 : ℤ)) : ℝ) : EReal) := by
  show Ideal.ieee 8 7 (0xFF7F#16 : BitVec 16) = _
  unfold Ideal.ieee
  simp

/-- A normed and scaled entry of a token with entries `H` and per-column factors `G`. -/
def nrm (H G : Fin 7168 → EReal) (x : Fin 7168) : EReal :=
  H x * Ideal.rsqrt ((∑ y, H y * H y) * (((1 / 7168 : ℝ)) : EReal) + Ideal.ofBits .f32 0x3727C5AC#32) * G x

/-- The scale of a token before rounding. -/
def tokB (n : Fin 7168 → EReal) : EReal :=
  Finset.fold max (Ideal.ofBits .f32 0xFF800000#32) (fun x => max (n x) (-(n x))) Finset.univ * Ideal.ofBits .f32 0x3B124925#32

/-- Dividing by 7168 is multiplying by its inverse. -/
theorem div_d (a : EReal) : Ideal.div a (Ideal.ofBits .f32 0x45E00000#32) = a * (((1 / 7168 : ℝ)) : EReal) := by
  rw [d_word, Ideal.div_coe (by norm_num)]

/-- A square is no less than zero. -/
theorem sq_nonneg' (a : EReal) : 0 ≤ a * a := by
  rcases le_total 0 a with h | h
  · exact mul_nonneg h h
  · rw [← neg_mul_neg]
    exact mul_nonneg (EReal.neg_nonneg.2 h) (EReal.neg_nonneg.2 h)

/-- No entry of the normed token is larger than `85 * 2^128`. -/
theorem nrm_bound (H G : Fin 7168 → EReal) (hG : ∀ x, ∃ g : ℝ, G x = g ∧ |g| ≤ 2 ^ 128) (x : Fin 7168) :
    max (nrm H G x) (-(nrm H G x)) ≤ ((85 * 2 ^ 128 : ℝ) : EReal) := by
  obtain ⟨e, he, hew⟩ := eps_word
  obtain ⟨g, hg, hgb⟩ := hG x
  have hle : H x * H x ≤ ∑ y, H y * H y :=
    Finset.single_le_sum (f := fun y => H y * H y) (fun y _ => sq_nonneg' (H y)) (Finset.mem_univ x)
  have hS0 : 0 ≤ ∑ y, H y * H y := (sq_nonneg' _).trans hle
  unfold nrm
  rw [hew, hg]
  generalize hS : (∑ y, H y * H y) = S at *
  by_cases hT : S = ⊤
  · subst hT
    rw [EReal.top_mul_coe_of_pos (by norm_num), EReal.top_add_coe]
    have : Ideal.rsqrt ⊤ = 0 := rfl
    rw [this]
    rw [mul_zero, zero_mul, neg_zero, max_self]
    exact EReal.coe_nonneg.2 (by positivity)
  · have hb : S ≠ ⊥ := by rintro rfl; simp at hS0
    lift S to ℝ using ⟨hT, hb⟩
    have hx1 : H x ≠ ⊤ := by
      intro h; rw [h] at hle; simp at hle
    have hx2 : H x ≠ ⊥ := by
      intro h; rw [h] at hle; simp at hle
    generalize H x = a at *
    lift a to ℝ using ⟨hx1, hx2⟩
    rw [← EReal.coe_mul] at hle
    have hle' : a * a ≤ S := EReal.coe_le_coe_iff.1 hle
    have hS0' : 0 ≤ S := by exact_mod_cast hS0
    rw [← EReal.coe_mul, ← EReal.coe_add]
    have hp : 0 < S * (1/7168) + e := by positivity
    have hr : Ideal.rsqrt ((S * (1/7168) + e : ℝ) : EReal) = (((Real.sqrt (S * (1/7168) + e))⁻¹ : ℝ) : EReal) := by
      show (if S * (1/7168) + e < 0 then (⊥ : EReal) else if S * (1/7168) + e = 0 then ⊤ else _) = _
      rw [if_neg (not_lt.2 hp.le), if_neg hp.ne']
    rw [hr, ← EReal.coe_mul, ← EReal.coe_mul, ← EReal.coe_neg]
    have hs : 0 < Real.sqrt (S * (1/7168) + e) := Real.sqrt_pos.2 hp
    have h1 : |a| ≤ 85 * Real.sqrt (S * (1/7168) + e) := by
      refine abs_le_of_sq_le_sq ?_ (by positivity)
      rw [mul_pow, Real.sq_sqrt hp.le]
      nlinarith
    have h2 : |a * (Real.sqrt (S * (1/7168) + e))⁻¹| ≤ 85 := by
      rw [abs_mul, abs_of_pos (inv_pos.2 hs), ← div_eq_mul_inv, div_le_iff₀ hs]
      exact h1
    have h3 : |a * (Real.sqrt (S * (1/7168) + e))⁻¹ * g| ≤ 85 * 2 ^ 128 := by
      rw [abs_mul]
      exact mul_le_mul h2 hgb (abs_nonneg _) (by norm_num)
    obtain ⟨h4, h5⟩ := abs_le.1 h3
    exact max_le (EReal.coe_le_coe_iff.2 h5) (EReal.coe_le_coe_iff.2 (by linarith))

/-- The scale before rounding lies in the range where the kernel's search is right. -/
theorem tokB_range (H G : Fin 7168 → EReal) (hG : ∀ x, ∃ g : ℝ, G x = g ∧ |g| ≤ 2 ^ 128) :
    0 ≤ tokB (nrm H G) ∧ tokB (nrm H G) < V 253 := by
  unfold tokB
  rw [bot_word, c_word]
  have h0 : (0 : EReal) ≤ Finset.fold max ⊥ (fun x => max (nrm H G x) (-(nrm H G x))) Finset.univ := by
    refine (Finset.le_fold_max (s := Finset.univ) (f := fun x => max (nrm H G x) (-(nrm H G x))) (b := ⊥) 0).2 (.inr ⟨0, Finset.mem_univ _, ?_⟩)
    rcases le_total 0 (nrm H G 0) with h | h
    · exact h.trans (le_max_left _ _)
    · exact (EReal.neg_nonneg.2 h).trans (le_max_right _ _)
  have h1 : Finset.fold max ⊥ (fun x => max (nrm H G x) (-(nrm H G x))) Finset.univ ≤ ((85 * 2 ^ 128 : ℝ) : EReal) :=
    (Finset.fold_max_le (s := Finset.univ) (f := fun x => max (nrm H G x) (-(nrm H G x))) (b := ⊥) _).2 ⟨bot_le, fun x _ => nrm_bound H G hG x⟩
  have hc : (0 : EReal) ≤ ((9586981 * 2 ^ (-32 : ℤ) : ℝ) : EReal) := by
    exact_mod_cast (by positivity : (0:ℝ) ≤ 9586981 * 2 ^ (-32 : ℤ))
  refine ⟨mul_nonneg h0 hc, (mul_le_mul_of_nonneg_right h1 hc).trans_lt ?_⟩
  rw [← EReal.coe_mul]
  unfold V
  rw [if_neg (by norm_num)]
  refine EReal.coe_lt_coe_iff.2 ?_
  norm_num
-- ==== Proof.SpecMath.lean ====
/- The three results, entry by entry, as formulas over the argument entries. -/
module
public import proofs.«01_k».proof.Proof.NormMath
@[expose] public section
set_option maxRecDepth 16384
noncomputable section
namespace Cert.Math
open Idealize.ShloMosaic

/-- One entry of the first result: the residual plus the scaled product of the activations and the scaled weights. -/
def hE (x : Fin 24576 → Fin 8192 → EReal) (xs : Fin 24576 → EReal) (w : Fin 8192 → Fin 7168 → EReal) (ws : Fin 64 → Fin 56 → EReal)
    (r : Fin 24576 → Fin 7168 → EReal) (i : Fin 24576) (q : Fin 7168) : EReal :=
  r i q + (∑ k : Fin 8192, x i k * (w k q * ws ⟨k.val / 128, by omega⟩ ⟨q.val / 128, by omega⟩)) * xs i

/-- In range, the kernel's code of an entry is the reference's. -/
theorem kcode_eq (x b : EReal) (h0 : 0 ≤ b) (hb : b < V 253) :
    KernelIdeal.Hand.kcode (F := Ideal) x b = ReferenceIdeal.Hand.rcode (F := Ideal) x (ReferenceIdeal.Hand.rexp (F := Ideal) b) := by
  have h := (scale_eq b h0 hb).2
  exact congrArg (fun z : EReal => min (Ideal.ofBits .f32 0x43E00000#32) (max (Ideal.ofBits .f32 0xC3E00000#32) (x * z))) h

/-- In range, the kernel's scale of a token is the reference's. -/
theorem kscale_eq (b : EReal) (h0 : 0 ≤ b) (hb : b < V 253) :
    KernelIdeal.Hand.kscale (F := Ideal) b = FloatOps.exp2 (F := Ideal) (φ := .f32) (ReferenceIdeal.Hand.rexp (F := Ideal) b) :=
  (scale_eq b h0 hb).1

end Cert.Math
end
-- ==== Proof.IdealPay.lean ====
/- The kernel's payloads, entry by entry, as the formulas over their operands. -/
module
public import proofs.«01_k».proof.Proof.SpecMath
@[expose] public section
set_option maxRecDepth 16384
noncomputable section
namespace Cert.KernelIdeal.Hand
open Idealize.ShloMosaic Cert.KernelIdeal.Gen Cert.Math

/-- The output block at an index. -/
theorem pay95_at (a : Vec Ideal S512x8192 .bf16) (b : Vec Ideal S8192x512 .bf16) (r : Vec Ideal S512x512 .bf16) (d : Vec Ideal S512x1 .f32)
    (j : S512x512.Idx) : k0_pay95 (F := Ideal) a b r d j = r j + (∑ k : Fin 8192, a (ix2 (j 0) k) * b (ix2 k (j 1))) * d (ix2 (j 0) 0) := by
  pointwise [k0_pay95]

/-- The cast of the activation block changes nothing. -/
theorem pay13_at (x : Vec Ideal S512x8192 .fp8e4m3) (j : S512x8192.Idx) : (k0_pay13 (F := Ideal) x j : EReal) = x j := by
  pointwise [k0_pay13]

/-- The named constant is 1/7168. -/
theorem inv_d : (Named.named (F := Ideal) κ "inv_d" (φ := .f32) 957499685#32 : EReal) = (((1 / 7168 : ℝ)) : EReal) :=
  IdealRules.named_const.ideal_named_scalar _ _ _ _ rfl

/-- The normed entries of a chunk at an index. -/
theorem pay5_at (v : Vec Ideal S32x7168 .bf16) (g : Vec Ideal S1x7168 .bf16) (j : S32x7168.Idx) : k0_pay5 (F := Ideal) v g j =
    nrm (fun q => v (ix2 (j 0) q)) (fun q => g (ix2 0 q)) (j 1) := by
  refine Eq.trans (b := v j * Ideal.rsqrt ((∑ x, v (ix2 (j 0) x) * v (ix2 (j 0) x)) * Named.named (F := Ideal) κ "inv_d" (φ := .f32) 957499685#32 + Ideal.ofBits FTy.f32 925353388#32) * g (ix2 0 (j 1))) ?_ ?_
  · pointwise [k0_pay5]
  · rw [inv_d]
    have hj : v j = v (ix2 (j 0) (j 1)) := congrArg v (by funext a; match a with | ⟨0, _⟩ => rfl | ⟨1, _⟩ => rfl)
    rw [hj]
    rfl

/-- The scale before rounding of a token of a chunk. -/
theorem pay6_at (v : Vec Ideal S32x7168 .bf16) (g : Vec Ideal S1x7168 .bf16) (j : S32x1.Idx) : k0_pay6 (F := Ideal) v g j =
    tokB (nrm (fun q => v (ix2 (j 0) q)) (fun q => g (ix2 0 q))) := by
  refine Eq.trans (b := Finset.fold max (Ideal.ofBits FTy.f32 4286578688#32) (fun x => FloatOps.absf (F := Ideal) (φ := .f32) (k0_pay5 (F := Ideal) v g (ix2 (j 0) x))) Finset.univ * Ideal.ofBits FTy.f32 991054117#32) ?_ ?_
  · pointwise [k0_pay6]
  · simp only [pay5_at]
    rfl

end Cert.KernelIdeal.Hand
end
-- ==== Proof.IdealTrack.lean ====
/- The run of the kernel with what each point computes: the scratch and the outputs, point by point. -/
module

public import proofs.«01_k».proof.Proof.IdealBody
public import proofs.«01_k».proof.Proof.IdealLoopVal
public import Idealize.ShloMosaic.Lib.Pipeline.DatRel
public import Idealize.ShloMosaic.Lib.Pipeline.FrameBody
public import Idealize.ShloMosaic.Lib.Tactic
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of the row block that a point lies in. -/
def firstPt (t : Fin cfg0.N) : Fin cfg0.N := ⟨14 * (t.val / 14), Nat.lt_of_le_of_lt (Nat.mul_div_le t.val 14) t.isLt⟩

/-- The output block of a point: the residual block plus the scaled product, rounded. -/
def hblk (c : Dev nD) (t : Fin cfg0.N) : Vec F S512x512 .bf16 :=
  k0_pay95 (k0_pay13 (iblk m c 0 (firstPt t))) (wbOf (iblk m c 2 t) (iblk m c 3 t)) (iblk m c 4 t) (iblk m c 1 t)

/-- The row block that a point lies in: its fourteen output blocks side by side. -/
def hrow (c : Dev nD) (t : Fin cfg0.N) : Vec F S512x7168 .bf16 := fun y =>
  hblk m c ⟨14 * (t.val / 14) + (y 1).val / 512, by have h : (y 1).val < 7168 := (y 1).isLt; have h' : t.val < 672 := t.isLt; show _ < 672; omega⟩
    (ValueIdx.ix2 (y 0) ⟨(y 1).val % 512, Nat.mod_lt _ (by decide)⟩)

/-- Before point `n` the activation scratch holds the cast block of the row block, unless a new row block starts there. -/
def xInv (c : Dev nD) (n : ℕ) (x : Vec F S512x8192 .bf16) : Prop :=
  ∀ t : Fin cfg0.N, n % 14 ≠ 0 → t.val = 14 * (n / 14) → x = k0_pay13 (iblk m c 0 t)

/-- The row scratch holds row block `k`'s columns for the points before `n`. -/
def rowsInv (c : Dev nD) (k n : ℕ) (x : Vec F S512x7168 .bf16) : Prop :=
  ∀ (y : S512x7168.Idx) (s : Fin cfg0.N), s.val = 14 * k + (y 1).val / 512 → s.val < n →
    x y = hblk m c s (ValueIdx.ix2 (y 0) ⟨(y 1).val % 512, Nat.mod_lt _ (by decide)⟩)

/-- One point's block put into its columns. -/
theorem rowsInv_put (c : Dev nD) (t : Fin cfg0.N) (x : Vec F S512x7168 .bf16) (h : rowsInv m c (t.val / 14) t.val x) (v : Vec F S512x512 .bf16)
    (hv : v = hblk m c t) :
    rowsInv m c (t.val / 14) (t.val + 1) (VecWindow.put x ![0, (grid0.coords t 1).val * 512] S512x512.size v) := by
  intro y s hs hlt
  have hy1 : (y 1).val < 7168 := (y 1).isLt
  have hy0 : (y 0).val < 512 := (y 0).isLt
  have hc := coords1 t
  unfold VecWindow.put
  by_cases hst : s.val = t.val
  · have hin : ∀ a, (![0, (grid0.coords t 1).val * 512] : Fin 2 → ℕ) a ≤ (y a).val ∧ (y a).val < (![0, (grid0.coords t 1).val * 512] : Fin 2 → ℕ) a + S512x512.size a := by
      intro a
      match a with
      | ⟨0, _⟩ => show 0 ≤ (y 0).val ∧ (y 0).val < 0 + 512; omega
      | ⟨1, _⟩ => show (grid0.coords t 1).val * 512 ≤ (y 1).val ∧ (y 1).val < (grid0.coords t 1).val * 512 + 512; omega
    rw [dif_pos hin, hv]
    obtain rfl : s = t := Fin.ext hst
    congr 1
    funext a; apply Fin.ext
    match a with
    | ⟨0, _⟩ => show (y 0).val - 0 = (y 0).val; omega
    | ⟨1, _⟩ => show (y 1).val - (grid0.coords s 1).val * 512 = (y 1).val % 512; omega
  · rw [dif_neg (fun hin => hst (by
      have h1 : (grid0.coords t 1).val * 512 ≤ (y 1).val ∧ (y 1).val < (grid0.coords t 1).val * 512 + 512 := hin 1
      omega))]
    exact h y s hs (by omega)

/-- The columns written, as they stand before the next point. -/
theorem rowsInv_next (c : Dev nD) (n : ℕ) (x : Vec F S512x7168 .bf16) (h : rowsInv m c (n / 14) (n + 1) x) :
    rowsInv m c ((n + 1) / 14) (n + 1) x := by
  intro y s hs hlt
  exact h y s (by omega) hlt

/-- After a row block's last point the row scratch is the whole row block. -/
theorem rowsInv_last (c : Dev nD) (t : Fin cfg0.N) (h13 : t.val % 14 = 13) (x : Vec F S512x7168 .bf16) (h : rowsInv m c (t.val / 14) (t.val + 1) x) :
    x = hrow m c t := by
  funext y
  have hy1 : (y 1).val < 7168 := (y 1).isLt
  exact h y _ rfl (by show 14 * (t.val / 14) + (y 1).val / 512 < t.val + 1; omega)

/-- Which windows are outputs. -/
def tmask : Fin 9 → Bool := fun w => w.val == 6 || w.val == 7 || w.val == 8

/-- What each point leaves in the outputs' buffers: its block of the sum; at a row block's last point its codes and its scales. -/
def Rl (c : Dev nD) (w : Fin cfg0.W) (t : Fin cfg0.N) (X : (cfg0.win w).block.Idx → Elt F (cfg0.win w).elt) : Prop := match w with
  | ⟨0, _⟩ => True
  | ⟨1, _⟩ => True
  | ⟨2, _⟩ => True
  | ⟨3, _⟩ => True
  | ⟨4, _⟩ => True
  | ⟨5, _⟩ => True
  | ⟨6, _⟩ => X = hblk m c t
  | ⟨7, _⟩ => t.val % 14 = 13 → X = codesOf (hrow m c t) (iblk m c 5 t)
  | ⟨8, _⟩ => t.val % 14 = 13 → X = scaleOf (hrow m c t) (iblk m c 5 t)

/-- The invariant before point `n`: the three scratch buffers and the generator register. -/
def Phi (c : Dev nD) (n : ℕ) : sProp 𝕄 :=
  iprop(iprop((∃ x, ⌜xInv m c n x⌝ ∗ owns (c : Thread nD τ) scM0_0 fullShare x) ∗ (∃ d, owns (c : Thread nD τ) scM0_1 fullShare d)
    ∗ (∃ x, ⌜rowsInv m c (n / 14) n x⌝ ∗ owns (c : Thread nD τ) scM0_2 fullShare x)) ∗ (∃ r, prngReg c r))

/-- The run's proof data: the arrays as the region finds them, every input's buffer at its block, the outputs by `Rl`, the scratch
    by `Phi`. -/
def tdats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ n := Phi m c n.val
  q _ := fullShare
  owed _ := 0

theorem tA_eq (c : Dev nD) (w : Fin cfg0.W) : (tdats m 0 c).A w = V m c (Pipeline.arrRef spec0 w) := by
  dsimp only [tdats]
theorem tafter0_0 (c : Dev nD) (t : Fin cfg0.N) : (tdats m 0 c).after 0 t = iblk m c 0 t := by dsimp only [tdats]
theorem tafter0_1 (c : Dev nD) (t : Fin cfg0.N) : (tdats m 0 c).after 1 t = iblk m c 1 t := by dsimp only [tdats]
theorem tafter0_2 (c : Dev nD) (t : Fin cfg0.N) : (tdats m 0 c).after 2 t = iblk m c 2 t := by dsimp only [tdats]
theorem tafter0_3 (c : Dev nD) (t : Fin cfg0.N) : (tdats m 0 c).after 3 t = iblk m c 3 t := by dsimp only [tdats]
theorem tafter0_4 (c : Dev nD) (t : Fin cfg0.N) : (tdats m 0 c).after 4 t = iblk m c 4 t := by dsimp only [tdats]
theorem tafter0_5 (c : Dev nD) (t : Fin cfg0.N) : (tdats m 0 c).after 5 t = iblk m c 5 t := by dsimp only [tdats]
theorem tbefore0_0 (c : Dev nD) (t : Fin cfg0.N) (d) : (tdats m 0 c).before 0 t d = iblk m c 0 t :=
  before0_0_of m (tdats m 0 c) (tA_eq m c 0) (tafter0_0 m c) t d
theorem tbefore0_1 (c : Dev nD) (t : Fin cfg0.N) (d) : (tdats m 0 c).before 1 t d = iblk m c 1 t :=
  before0_1_of m (tdats m 0 c) (tA_eq m c 1) (tafter0_1 m c) t d
theorem tbefore0_2 (c : Dev nD) (t : Fin cfg0.N) (d) : (tdats m 0 c).before 2 t d = iblk m c 2 t :=
  before0_2_of m (tdats m 0 c) (tA_eq m c 2) (tafter0_2 m c) t d
theorem tbefore0_3 (c : Dev nD) (t : Fin cfg0.N) (d) : (tdats m 0 c).before 3 t d = iblk m c 3 t :=
  before0_3_of m (tdats m 0 c) (tA_eq m c 3) (tafter0_3 m c) t d
theorem tbefore0_4 (c : Dev nD) (t : Fin cfg0.N) (d) : (tdats m 0 c).before 4 t d = iblk m c 4 t :=
  before0_4_of m (tdats m 0 c) (tA_eq m c 4) (tafter0_4 m c) t d
theorem tbefore0_5 (c : Dev nD) (t : Fin cfg0.N) (d) : (tdats m 0 c).before 5 t d = iblk m c 5 t :=
  before0_5_of m (tdats m 0 c) (tA_eq m c 5) (tafter0_5 m c) t d

/-- What the body is called with at a point, window by window. -/
def tPre (c : Dev nD) (t : Fin cfg0.N) : sProp 𝕄 :=
  iprop((tdats m 0 c).Φ t.castSucc ∗ (tdats m 0 c).owesAt () t.castSucc
    ∗ (∃ d, owns (c : Thread nD τ) (ms0_0 t) fullShare ((tdats m 0 c).before 0 t d))
    ∗ (∃ d, owns (c : Thread nD τ) (ms0_1 t) fullShare ((tdats m 0 c).before 1 t d))
    ∗ (∃ d, owns (c : Thread nD τ) (ms0_2 t) fullShare ((tdats m 0 c).before 2 t d))
    ∗ (∃ d, owns (c : Thread nD τ) (ms0_3 t) fullShare ((tdats m 0 c).before 3 t d))
    ∗ (∃ d, owns (c : Thread nD τ) (ms0_4 t) fullShare ((tdats m 0 c).before 4 t d))
    ∗ (∃ d, owns (c : Thread nD τ) (ms0_5 t) fullShare ((tdats m 0 c).before 5 t d))
    ∗ (∃ Y, ⌜((tdats m 0 c).toRRel tmask (Rl m c)).Finds 6 t Y⌝ ∗ owns (c : Thread nD τ) (ms0_6 t) fullShare Y)
    ∗ (∃ Y, ⌜((tdats m 0 c).toRRel tmask (Rl m c)).Finds 7 t Y⌝ ∗ owns (c : Thread nD τ) (ms0_7 t) fullShare Y)
    ∗ (∃ Y, ⌜((tdats m 0 c).toRRel tmask (Rl m c)).Finds 8 t Y⌝ ∗ owns (c : Thread nD τ) (ms0_8 t) fullShare Y))

/-- What the body returns at a point, window by window. -/
def tPost (c : Dev nD) (t : Fin cfg0.N) : sProp 𝕄 :=
  iprop((tdats m 0 c).Φ t.succ ∗ (tdats m 0 c).owesAt () t.succ
    ∗ owns (c : Thread nD τ) (ms0_0 t) fullShare ((tdats m 0 c).after 0 t)
    ∗ owns (c : Thread nD τ) (ms0_1 t) fullShare ((tdats m 0 c).after 1 t)
    ∗ owns (c : Thread nD τ) (ms0_2 t) fullShare ((tdats m 0 c).after 2 t)
    ∗ owns (c : Thread nD τ) (ms0_3 t) fullShare ((tdats m 0 c).after 3 t)
    ∗ owns (c : Thread nD τ) (ms0_4 t) fullShare ((tdats m 0 c).after 4 t)
    ∗ owns (c : Thread nD τ) (ms0_5 t) fullShare ((tdats m 0 c).after 5 t)
    ∗ (∃ X, ⌜X = hblk m c t⌝ ∗ owns (c : Thread nD τ) (ms0_6 t) fullShare X)
    ∗ (∃ X, ⌜t.val % 14 = 13 → X = codesOf (hrow m c t) (iblk m c 5 t)⌝ ∗ owns (c : Thread nD τ) (ms0_7 t) fullShare X)
    ∗ (∃ X, ⌜t.val % 14 = 13 → X = scaleOf (hrow m c t) (iblk m c 5 t)⌝ ∗ owns (c : Thread nD τ) (ms0_8 t) fullShare X))

set_option maxHeartbeats 4000000 in
/-- The body at any point, by the case the point is in. -/
theorem tbody (c : Dev nD) (t : Fin cfg0.N) :
    tPre m c t ⊢ wp frame (wpE (defs₀ (F := F)) Variants.none c none) Set.univ (bodyAt0 t) (fun _ => tPost m c t) := by
  unfold tPre tPost bodyAt0
  simp only [tbefore0_0, tafter0_0, tbefore0_1, tafter0_1, tbefore0_2, tafter0_2, tbefore0_3, tafter0_3, tbefore0_4, tafter0_4, tbefore0_5, tafter0_5]
  rw [show (tdats m 0 c).owesAt () t.succ = (tdats m 0 c).owesAt () t.castSucc from rfl]
  rw [show (tdats m 0 c).Φ t.succ = Phi m c (t.val + 1) from rfl, show (tdats m 0 c).Φ t.castSucc = Phi m c t.val from rfl]
  unfold Phi
  iintro ⟨⟨⟨⟨%x11, %hx11, H11⟩, H12, ⟨%x13, %hx13, H13⟩⟩, Hg⟩, Ho, ⟨%d2, H2⟩, ⟨%d3, H3⟩, ⟨%d4, H4⟩, ⟨%d5, H5⟩, ⟨%d6, H6⟩, ⟨%d7, H7⟩, ⟨%d8, -, H8⟩, ⟨%d9, -, H9⟩, ⟨%d10, -, H10⟩⟩
  by_cases h0 : t.val % 14 = 0
  · have h1 : ¬t.val % 14 = 13 := by omega
    have hv := headA_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) x13
    have hft : firstPt t = t := Fin.ext (by show 14 * (t.val / 14) = t.val; omega)
    have hh := hv.2.trans (show _ = hblk m c t from by unfold hblk; rw [hft])
    have hx : xInv m c (t.val + 1) _ := fun t' _ ht' => by
      obtain rfl : t' = t := Fin.ext (by omega)
      exact hv.1
    have hr := rowsInv_put m c t x13 hx13 _ hh
    iapply (bodyA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) x13 Set.univ _)
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    isplitl [H12]; · iexact H12
    isplitl [H13]; · iexact H13
    iintro ⟨H2, H3, H4, H5, H6, H7, H8, ⟨%e9, H9⟩, ⟨%e10, H10⟩, H11, H12, H13⟩
    isplitl [H11 H12 H13 Hg]
    · isplitl [H11 H12 H13]
      · isplitl [H11]
        · iexists _; isplitr; swap; · iexact H11
          ipureintro; exact hx
        isplitl [H12]; · iexact H12
        iexists _; isplitr; swap; · iexact H13
        ipureintro; exact rowsInv_next m c _ _ hr
      iexact Hg
    isplitl [Ho]; · iexact Ho
    isplitl [H2]; · iexact H2
    isplitl [H3]; · iexact H3
    isplitl [H4]; · iexact H4
    isplitl [H5]; · iexact H5
    isplitl [H6]; · iexact H6
    isplitl [H7]; · iexact H7
    isplitl [H8]
    · iexists _; isplitr; swap; · iexact H8
      ipureintro; exact hh
    isplitl [H9]
    · iexists _; isplitr; swap; · iexact H9
      ipureintro; exact fun h => absurd h h1
    iexists _; isplitr; swap; · iexact H10
    ipureintro; exact fun h => absurd h h1
  · by_cases h1 : t.val % 14 = 13
    · skip
      have hxe : x11 = k0_pay13 (iblk m c 0 (firstPt t)) := hx11 (firstPt t) h0 rfl
      have hv := headB_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x11 x13
      have hh := hv.trans (show _ = hblk m c t from by unfold hblk; rw [hxe])
      have hx : xInv m c (t.val + 1) x11 := fun t' hn ht' => hx11 t' h0 (by omega)
      have hr := rowsInv_put m c t x13 hx13 _ hh
      have hrw := rowsInv_last m c t h1 _ hr
      have hl := loop_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) ((hcond0_1 t).mpr h1) (iblk m c 5 t) (hrow m c t)
      rw [← hrw] at hl
      iapply (bodyC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (iblk m c 5 t) x11 x13 Set.univ _)
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      iintro ⟨H2, H3, H4, H5, H6, H7, H8, ⟨%f9, H9⟩, ⟨%f10, H10⟩, H11, H12, H13⟩
      isplitl [H11 H12 H13 Hg]
      · isplitl [H11 H12 H13]
        · isplitl [H11]
          · iexists _; isplitr; swap; · iexact H11
            ipureintro; exact hx
          isplitl [H12]; · iexact H12
          iexists _; isplitr; swap; · iexact H13
          ipureintro; exact rowsInv_next m c _ _ hr
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]
      · iexists _; isplitr; swap; · iexact H8
        ipureintro; exact hh
      isplitl [H9]
      · iexists _; isplitr; swap
        · unfold owns; iexists _; isplitr; swap; · iexact H9
          ipureintro; exact hl.1 f9
        ipureintro; exact fun _ => congrArg (fun x => codesOf x (iblk m c 5 t)) hrw
      iexists _; isplitr; swap
      · unfold owns; iexists _; isplitr; swap; · iexact H10
        ipureintro; exact hl.2 f10
      ipureintro; exact fun _ => congrArg (fun x => scaleOf x (iblk m c 5 t)) hrw
    · skip
      have hxe : x11 = k0_pay13 (iblk m c 0 (firstPt t)) := hx11 (firstPt t) h0 rfl
      have hv := headB_val c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x11 x13
      have hh := hv.trans (show _ = hblk m c t from by unfold hblk; rw [hxe])
      have hx : xInv m c (t.val + 1) x11 := fun t' hn ht' => hx11 t' h0 (by omega)
      have hr := rowsInv_put m c t x13 hx13 _ hh
      iapply (bodyB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) x11 x13 Set.univ _)
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexact H11
      isplitl [H12]; · iexact H12
      isplitl [H13]; · iexact H13
      iintro ⟨H2, H3, H4, H5, H6, H7, H8, ⟨%e9, H9⟩, ⟨%e10, H10⟩, H11, H12, H13⟩
      isplitl [H11 H12 H13 Hg]
      · isplitl [H11 H12 H13]
        · isplitl [H11]
          · iexists _; isplitr; swap; · iexact H11
            ipureintro; exact hx
          isplitl [H12]; · iexact H12
          iexists _; isplitr; swap; · iexact H13
          ipureintro; exact rowsInv_next m c _ _ hr
        iexact Hg
      isplitl [Ho]; · iexact Ho
      isplitl [H2]; · iexact H2
      isplitl [H3]; · iexact H3
      isplitl [H4]; · iexact H4
      isplitl [H5]; · iexact H5
      isplitl [H6]; · iexact H6
      isplitl [H7]; · iexact H7
      isplitl [H8]
      · iexists _; isplitr; swap; · iexact H8
        ipureintro; exact hh
      isplitl [H9]
      · iexists _; isplitr; swap; · iexact H9
        ipureintro; exact fun h => absurd h h1
      iexists _; isplitr; swap; · iexact H10
      ipureintro; exact fun h => absurd h h1

/-- The body table's row at a point's slots is the body at the point's buffers. -/
theorem tdefs₀_row (t : Fin cfg0.N) :
    defs₀ (F := F) .tc cfg0.body (cfg0.bodyArgs t (cfg0.slots t)) = bodyAt0 t := by
  unfold defs₀; rw [Defs.onTc_tc]

/-- The body's obligation at every point, the outputs held to `Rl`. -/
theorem tbody_obligation (c : Dev nD) : Pipeline.BodyObligationRel (tdats (F := F) m 0 c) (defs₀ (F := F)) Variants.none () Set.univ tmask (Rl m c) := fun t => by
  rw [bigSep_W0, bigSep_W0, tdefs₀_row]
  exact triple_restated (tbody m c t) rfl .rfl fun _ => .rfl

/-- Before the first point nothing is asked of the scratch. -/
theorem Phi_in (c : Dev nD) : Pipeline.ΦA spec0 c ⊢ Phi (F := F) m c 0 := by
  rw [PhiA0_eq]; unfold Phi
  iintro ⟨⟨⟨%x11, H11⟩, H12, ⟨%x13, H13⟩⟩, Hg⟩
  isplitl [H11 H12 H13]
  · isplitl [H11]
    · iexists x11; isplitr; swap; · iexact H11
      ipureintro; exact fun _ h => absurd rfl h
    isplitl [H12]; · iexact H12
    iexists x13; isplitr; swap; · iexact H13
    ipureintro; exact fun _ _ _ h => absurd h (Nat.not_lt_zero _)
  iexact Hg

/-- After the last point the scratch is forgotten. -/
theorem Phi_out (c : Dev nD) (n : ℕ) : Phi (F := F) m c n ⊢ Pipeline.ΦA spec0 c := by
  rw [PhiA0_eq]; unfold Phi
  iintro ⟨⟨⟨%x11, -, H11⟩, H12, ⟨%x13, -, H13⟩⟩, Hg⟩
  isplitl [H11 H12 H13]
  · isplitl [H11]; · iexists x11; iexact H11
    isplitl [H12]; · iexact H12
    iexists x13; iexact H13
  iexact Hg

end Cert.KernelIdeal.Hand

end
-- ==== Proof.IdealRun.lean ====
/- The result arrays of the kernel at the end of the run, entry by entry. -/
module

public import proofs.«01_k».proof.Proof.IdealTrack
public import proofs.«01_k».proof.Proof.IdealFrame
public import Idealize.ShloMosaic.Lib.Pipeline.ArrRel
public import Idealize.ShloMosaic.Lib.Pipeline.Covers
public import Idealize.ShloMosaic.Lib.Pipeline.ValueKit.Geometry
public import Idealize.ShloMosaic.Lib.Tactic
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Which block of its array window 0 is at, point by point. -/
theorem e_0 : ∀ t : Fin cfg0.N, win0_0.index t = ![t.val / 14, 0] := (by decide +kernel : ∀ t : Fin grid0.N, win0_0.index t = ![t.val / 14, 0])
/-- Which block of its array window 1 is at, point by point. -/
theorem e_1 : ∀ t : Fin cfg0.N, win0_1.index t = ![t.val / 14, 0] := (by decide +kernel : ∀ t : Fin grid0.N, win0_1.index t = ![t.val / 14, 0])
/-- Which block of its array window 2 is at, point by point. -/
theorem e_2 : ∀ t : Fin cfg0.N, win0_2.index t = ![0, t.val % 14] := (by decide +kernel : ∀ t : Fin grid0.N, win0_2.index t = ![0, t.val % 14])
/-- Which block of its array window 3 is at, point by point. -/
theorem e_3 : ∀ t : Fin cfg0.N, win0_3.index t = ![0, t.val % 14] := (by decide +kernel : ∀ t : Fin grid0.N, win0_3.index t = ![0, t.val % 14])
/-- Which block of its array window 4 is at, point by point. -/
theorem e_4 : ∀ t : Fin cfg0.N, win0_4.index t = ![t.val / 14, t.val % 14] := (by decide +kernel : ∀ t : Fin grid0.N, win0_4.index t = ![t.val / 14, t.val % 14])
/-- Which block of its array window 5 is at, point by point. -/
theorem e_5 : ∀ t : Fin cfg0.N, win0_5.index t = ![0, 0] := (by decide +kernel : ∀ t : Fin grid0.N, win0_5.index t = ![0, 0])
/-- Which block of its array window 6 is at, point by point. -/
theorem e_6 : ∀ t : Fin cfg0.N, win0_6.index t = ![t.val / 14, t.val % 14] := (by decide +kernel : ∀ t : Fin grid0.N, win0_6.index t = ![t.val / 14, t.val % 14])
/-- Which block of its array window 7 is at, point by point. -/
theorem e_7 : ∀ t : Fin cfg0.N, win0_7.index t = ![t.val / 14, 0] := (by decide +kernel : ∀ t : Fin grid0.N, win0_7.index t = ![t.val / 14, 0])
/-- Which block of its array window 8 is at, point by point. -/
theorem e_8 : ∀ t : Fin cfg0.N, win0_8.index t = ![t.val / 14, 0] := (by decide +kernel : ∀ t : Fin grid0.N, win0_8.index t = ![t.val / 14, 0])

/-- The codes and scales are written back at a row block's last point only. -/
theorem flush_7 : ∀ t : Fin cfg0.N, win0_7.flush t = true → t.val % 14 = 13 := (by decide +kernel : ∀ t : Fin grid0.N, win0_7.flush t = true → t.val % 14 = 13)
/-- The scales are written back at a row block's last point only. -/
theorem flush_8 : ∀ t : Fin cfg0.N, win0_8.flush t = true → t.val % 14 = 13 := (by decide +kernel : ∀ t : Fin grid0.N, win0_8.flush t = true → t.val % 14 = 13)

/-- The point that writes the row block of row `r` and the column block of column `q`. -/
def ptOf (r : Fin 24576) (q : Fin 7168) : Fin cfg0.N :=
  ⟨14 * (r.val / 512) + q.val / 512, by have := r.isLt; have := q.isLt; show _ < 672; omega⟩

/-- The last point of the row block of row `r`. -/
def lastOf (r : Fin 24576) : Fin cfg0.N := ⟨14 * (r.val / 512) + 13, by have := r.isLt; show _ < 672; omega⟩

/-- The sum's array at the end: each entry the one its block's point computed. -/
def G6 (c : Dev nD) : Buf (Elt F) ((c.tc : Thread nD τ).loc main_v7_0) := fun i : S24576x7168.Idx =>
  hblk m c (ptOf (i 0) (i 1)) (ValueIdx.ix2 ⟨(i 0).val % 512, Nat.mod_lt _ (by decide)⟩ ⟨(i 1).val % 512, Nat.mod_lt _ (by decide)⟩)

/-- The codes' array at the end. -/
def G7 (c : Dev nD) : Buf (Elt F) ((c.tc : Thread nD τ).loc main_v7_1) := fun i : S24576x7168.Idx =>
  codesOf (hrow m c (lastOf (i 0))) (iblk m c 5 (lastOf (i 0))) (ValueIdx.ix2 ⟨(i 0).val % 512, Nat.mod_lt _ (by decide)⟩ (i 1))

/-- The scales' array at the end. -/
def G8 (c : Dev nD) : Buf (Elt F) ((c.tc : Thread nD τ).loc main_v7_2) := fun i : S24576x1.Idx =>
  scaleOf (hrow m c (lastOf (i 0))) (iblk m c 5 (lastOf (i 0))) (ValueIdx.ix2 ⟨(i 0).val % 512, Nat.mod_lt _ (by decide)⟩ (i 1))

/-- The run's data on a core. -/
abbrev rdat (c : Dev nD) := (tdats m 0 c).toRRel tmask (Rl m c)

set_option backward.isDefEq.respectTransparency.types false in
/-- The run: every execution ends, the arrays what the points computed, every counter at zero. -/
theorem trun : θ_run defs (onTc (τ := τ) (main (F := F))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => Pipeline.BodyObligationRel.toRRel _ (tbody_obligation m c)) (hshare := fun c => (tdats m 0 c).share_full fun _ => rfl)
    (howed := fun _ _ => rfl) (V := V m) (hmain := hmain m Variants.none) (hA := tA_eq m) (hin := fun c => Phi_in m c) (hout := fun c => Phi_out m c _)

/-- Output array 1 at the end, entry by entry. -/
theorem arr_6 (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) :
    ((rdat m c).withAfter after).arrAt 6 cfg0.N = G6 m c := by
  refine ((rdat m c).withAfter after).arrAt_eq_of_covers 6 _ (by decide +kernel) fun t hf y => ?_
  have h := (tdats m 0 c).toRRel_leaves (w := 6) (fgt := tmask) (Rl := Rl m c) rfl (hL 6 t hf)
  have h' : after 6 t = hblk m c t := h
  have ht : t.val < 672 := t.isLt
  have k0 : ((((cfg0.win 6).blk t).view.emb y 0 : Fin _) : ℕ) = 512 * (t.val / 14) + (y 0).val := by
    blk_simp [e_6]; omega
  have k1 : ((((cfg0.win 6).blk t).view.emb y 1 : Fin _) : ℕ) = 512 * (t.val % 14) + (y 1).val := by
    blk_simp [e_6]; omega
  have hy0 : (y 0).val < 512 := (y 0).isLt
  have hy1 : (y 1).val < 512 := (y 1).isLt
  refine (show _ = after 6 t y from rfl).trans ?_
  rw [h']
  unfold G6
  have hp : ptOf (((cfg0.win 6).blk t).view.emb y 0) (((cfg0.win 6).blk t).view.emb y 1) = t := by
    apply Fin.ext; unfold ptOf; dsimp only; rw [k0, k1]; omega
  rw [hp]
  congr 1
  funext a; apply Fin.ext
  match a with
  | ⟨0, _⟩ => show (y 0).val = _ % 512; rw [k0]; omega
  | ⟨1, _⟩ => show (y 1).val = _ % 512; rw [k1]; omega

/-- Output array 2 at the end, entry by entry. -/
theorem arr_7 (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) :
    ((rdat m c).withAfter after).arrAt 7 cfg0.N = G7 m c := by
  refine ((rdat m c).withAfter after).arrAt_eq_of_covers 7 _ (by decide +kernel) fun t hf y => ?_
  have h := (tdats m 0 c).toRRel_leaves (w := 7) (fgt := tmask) (Rl := Rl m c) rfl (hL 7 t hf)
  have h13 : t.val % 14 = 13 := flush_7 t hf
  have h' : after 7 t = codesOf (hrow m c t) (iblk m c 5 t) := h h13
  have ht : t.val < 672 := t.isLt
  have k0 : ((((cfg0.win 7).blk t).view.emb y 0 : Fin _) : ℕ) = 512 * (t.val / 14) + (y 0).val := by
    blk_simp [e_7]; omega
  have k1 : ((((cfg0.win 7).blk t).view.emb y 1 : Fin _) : ℕ) = (y 1).val := by
    blk_simp [e_7]
  have hy0 : (y 0).val < 512 := (y 0).isLt
  have hy1 : (y 1).val < 7168 := (y 1).isLt
  refine (show _ = after 7 t y from rfl).trans ?_
  rw [h']
  unfold G7
  have hp : lastOf (((cfg0.win 7).blk t).view.emb y 0) = t := by
    apply Fin.ext; unfold lastOf; dsimp only; rw [k0]; omega
  rw [hp]
  congr 1
  funext a; apply Fin.ext
  match a with
  | ⟨0, _⟩ => show (y 0).val = _ % 512; rw [k0]; omega
  | ⟨1, _⟩ => exact k1.symm

/-- Output array 3 at the end, entry by entry. -/
theorem arr_8 (c : Dev nD) (after : (w' : Fin cfg0.W) → Fin cfg0.N → (cfg0.win w').block.Idx → Elt F (cfg0.win w').elt)
    (hL : ∀ (w : Fin cfg0.W) (u : Fin cfg0.N), (cfg0.win w).flush u = true → (rdat m c).Leaves w u (after w u)) :
    ((rdat m c).withAfter after).arrAt 8 cfg0.N = G8 m c := by
  refine ((rdat m c).withAfter after).arrAt_eq_of_covers 8 _ (by decide +kernel) fun t hf y => ?_
  have h := (tdats m 0 c).toRRel_leaves (w := 8) (fgt := tmask) (Rl := Rl m c) rfl (hL 8 t hf)
  have h13 : t.val % 14 = 13 := flush_8 t hf
  have h' : after 8 t = scaleOf (hrow m c t) (iblk m c 5 t) := h h13
  have ht : t.val < 672 := t.isLt
  have k0 : ((((cfg0.win 8).blk t).view.emb y 0 : Fin _) : ℕ) = 512 * (t.val / 14) + (y 0).val := by
    blk_simp [e_8]; omega
  have k1 : ((((cfg0.win 8).blk t).view.emb y 1 : Fin _) : ℕ) = (y 1).val := by
    blk_simp [e_8]
  have hy0 : (y 0).val < 512 := (y 0).isLt
  have hy1 : (y 1).val < 1 := (y 1).isLt
  refine (show _ = after 8 t y from rfl).trans ?_
  rw [h']
  unfold G8
  have hp : lastOf (((cfg0.win 8).blk t).view.emb y 0) = t := by
    apply Fin.ext; unfold lastOf; dsimp only; rw [k0]; omega
  rw [hp]
  congr 1
  funext a; apply Fin.ext
  match a with
  | ⟨0, _⟩ => show (y 0).val = _ % 512; rw [k0]; omega
  | ⟨1, _⟩ => exact k1.symm

/-- The kernel's run: the three results and the arguments at the end. -/
theorem results : θ_run defs (onTc (τ := τ) (main (F := F))) ⟨m, fun _ => 0, ρ⟩ (fun r => ∀ c : Dev nD,
      r.2.mem ((c.tc : Thread nD τ).loc main_v7_0) = G6 m c
      ∧ r.2.mem ((c.tc : Thread nD τ).loc main_v7_1) = G7 m c
      ∧ r.2.mem ((c.tc : Thread nD τ).loc main_v7_2) = G8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := (θ_run defs _ _).mono (fun _ h => h.1) (trun m ρ)
  refine (θ_run defs _ _).mono (fun r h c => ?_) (θ_run_and h (frame_ofR m ρ (fun c => rdat m c) (tA_eq m) h))
  obtain ⟨after, hL, hA⟩ := Pipeline.RDat.FramePost.exists_exact h.1 c
  exact ⟨(hA 6).trans (arr_6 m c after hL), (hA 7).trans (arr_7 m c after hL), (hA 8).trans (arr_8 m c after hL), h.2 c⟩

end Cert.KernelIdeal.Hand

end
-- ==== Proof.IdealEntries.lean ====
/- The arrays the region finds, and every input block at an index, as entries of the arguments. -/
module

public import proofs.«01_k».proof.Proof.IdealTrack
public import proofs.«01_k».proof.Proof.IdealRun
public import Idealize.ShloMosaic.Lib.StableHlo.ReadAt
public import Idealize.ShloMosaic.Lib.Pointwise
public import Idealize.ShloMosaic.Lib.Pipeline.ArrRel
public import Idealize.ShloMosaic.Lib.Pipeline.Covers
public import Idealize.ShloMosaic.Lib.Pipeline.ValueKit.Geometry
public import Idealize.ShloMosaic.Lib.Tactic
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The region finds the activation codes reshaped. -/
theorem V_v3 (c : Dev nD) : (V m c main_v3 : Vec F S24576x8192 .fp8e4m3) =
    shapeCast S24576x8192 (m ((c : Thread nD τ).loc main_arg0)) shapeCasts_S3x8192x8192_S24576x8192 := by
  unfold V
  after_results
  rfl

/-- The region finds the activation scales reshaped. -/
theorem V_v4 (c : Dev nD) : (V m c main_v4 : Vec F S24576x1 .f32) =
    shapeCast S24576x1 (m ((c : Thread nD τ).loc main_arg1)) shapeCasts_S3x8192x1_S24576x1 := by
  unfold V
  after_results
  rfl

/-- The region finds the residual reshaped. -/
theorem V_v5 (c : Dev nD) : (V m c main_v5 : Vec F S24576x7168 .bf16) =
    shapeCast S24576x7168 (m ((c : Thread nD τ).loc main_arg4)) shapeCasts_S3x8192x7168_S24576x7168 := by
  unfold V
  after_results
  rfl

/-- The region finds gamma reshaped. -/
theorem V_v6 (c : Dev nD) : (V m c main_v6 : Vec F S1x7168 .bf16) =
    shapeCast S1x7168 (m ((c : Thread nD τ).loc main_arg5)) shapeCasts_S7168_S1x7168 := by
  unfold V
  after_results
  rfl

/-- The region finds each weight scale repeated along 128 columns. -/
theorem V_v2 (c : Dev nD) (j : S64x7168.Idx) : (V m c main_v2 : Vec F S64x7168 .bf16) j =
    FloatOps.truncf .bf16 bitsLt_bf16_f32 ((m ((c : Thread nD τ).loc main_arg3) : Vec F S64x56 .f32) (ValueIdx.ix2 (j 0) ⟨(j 1).val / 128, by have := (j 1).isLt; simp at this; omega⟩)) := by
  have e : (V m c main_v2 : Vec F S64x7168 .bf16) = shapeCast S64x7168 (broadcastInDim S64x56x128 ![0, 1] bcast_S64x56_S64x56x128_0_1
      (truncf .bf16 (m ((c : Thread nD τ).loc main_arg3) : Vec F S64x56 .f32) bitsLt_bf16_f32)) shapeCasts_S64x56x128_S64x7168 := by
    unfold V
    after_results
    rfl
  rw [e]
  pointwise
  rfl

/-- Window 0's block at an index is its array at the index it stands for. -/
theorem blk_0 (c : Dev nD) (t : Fin cfg0.N) (y : ((cfg0.win 0).xblock (cfg0.grid.coords t)).Idx) (i : S24576x8192.Idx)
    (h0 : (i 0).val = 512 * (t.val / 14) + (y 0).val) (h1 : (i 1).val = (y 1).val) :
    iblk m c 0 t y = V m c main_v3 i := by
  have k0 : ((((cfg0.win 0).blk t).view.emb y 0 : Fin _) : ℕ) = 512 * (t.val / 14) + (y 0).val := by
    blk_simp [e_0] <;> omega
  have k1 : ((((cfg0.win 0).blk t).view.emb y 1 : Fin _) : ℕ) = (y 1).val := by
    blk_simp [e_0] <;> omega
  refine congrArg (V m c main_v3) (?_ : ((cfg0.win 0).blk t).view.emb y = i)
  funext a
  refine Fin.ext ?_
  match a with
  | ⟨0, _⟩ => exact k0.trans h0.symm
  | ⟨1, _⟩ => exact k1.trans h1.symm

/-- Window 1's block at an index is its array at the index it stands for. -/
theorem blk_1 (c : Dev nD) (t : Fin cfg0.N) (y : ((cfg0.win 1).xblock (cfg0.grid.coords t)).Idx) (i : S24576x1.Idx)
    (h0 : (i 0).val = 512 * (t.val / 14) + (y 0).val) (h1 : (i 1).val = (y 1).val) :
    iblk m c 1 t y = V m c main_v4 i := by
  have k0 : ((((cfg0.win 1).blk t).view.emb y 0 : Fin _) : ℕ) = 512 * (t.val / 14) + (y 0).val := by
    blk_simp [e_1] <;> omega
  have k1 : ((((cfg0.win 1).blk t).view.emb y 1 : Fin _) : ℕ) = (y 1).val := by
    blk_simp [e_1] <;> omega
  refine congrArg (V m c main_v4) (?_ : ((cfg0.win 1).blk t).view.emb y = i)
  funext a
  refine Fin.ext ?_
  match a with
  | ⟨0, _⟩ => exact k0.trans h0.symm
  | ⟨1, _⟩ => exact k1.trans h1.symm

/-- Window 2's block at an index is its array at the index it stands for. -/
theorem blk_2 (c : Dev nD) (t : Fin cfg0.N) (y : ((cfg0.win 2).xblock (cfg0.grid.coords t)).Idx) (i : S8192x7168.Idx)
    (h0 : (i 0).val = (y 0).val) (h1 : (i 1).val = 512 * (t.val % 14) + (y 1).val) :
    iblk m c 2 t y = V m c main_arg2 i := by
  have k0 : ((((cfg0.win 2).blk t).view.emb y 0 : Fin _) : ℕ) = (y 0).val := by
    blk_simp [e_2] <;> omega
  have k1 : ((((cfg0.win 2).blk t).view.emb y 1 : Fin _) : ℕ) = 512 * (t.val % 14) + (y 1).val := by
    blk_simp [e_2] <;> omega
  refine congrArg (V m c main_arg2) (?_ : ((cfg0.win 2).blk t).view.emb y = i)
  funext a
  refine Fin.ext ?_
  match a with
  | ⟨0, _⟩ => exact k0.trans h0.symm
  | ⟨1, _⟩ => exact k1.trans h1.symm

/-- Window 3's block at an index is its array at the index it stands for. -/
theorem blk_3 (c : Dev nD) (t : Fin cfg0.N) (y : ((cfg0.win 3).xblock (cfg0.grid.coords t)).Idx) (i : S64x7168.Idx)
    (h0 : (i 0).val = (y 0).val) (h1 : (i 1).val = 512 * (t.val % 14) + (y 1).val) :
    iblk m c 3 t y = V m c main_v2 i := by
  have k0 : ((((cfg0.win 3).blk t).view.emb y 0 : Fin _) : ℕ) = (y 0).val := by
    blk_simp [e_3] <;> omega
  have k1 : ((((cfg0.win 3).blk t).view.emb y 1 : Fin _) : ℕ) = 512 * (t.val % 14) + (y 1).val := by
    blk_simp [e_3] <;> omega
  refine congrArg (V m c main_v2) (?_ : ((cfg0.win 3).blk t).view.emb y = i)
  funext a
  refine Fin.ext ?_
  match a with
  | ⟨0, _⟩ => exact k0.trans h0.symm
  | ⟨1, _⟩ => exact k1.trans h1.symm

/-- Window 4's block at an index is its array at the index it stands for. -/
theorem blk_4 (c : Dev nD) (t : Fin cfg0.N) (y : ((cfg0.win 4).xblock (cfg0.grid.coords t)).Idx) (i : S24576x7168.Idx)
    (h0 : (i 0).val = 512 * (t.val / 14) + (y 0).val) (h1 : (i 1).val = 512 * (t.val % 14) + (y 1).val) :
    iblk m c 4 t y = V m c main_v5 i := by
  have k0 : ((((cfg0.win 4).blk t).view.emb y 0 : Fin _) : ℕ) = 512 * (t.val / 14) + (y 0).val := by
    blk_simp [e_4] <;> omega
  have k1 : ((((cfg0.win 4).blk t).view.emb y 1 : Fin _) : ℕ) = 512 * (t.val % 14) + (y 1).val := by
    blk_simp [e_4] <;> omega
  refine congrArg (V m c main_v5) (?_ : ((cfg0.win 4).blk t).view.emb y = i)
  funext a
  refine Fin.ext ?_
  match a with
  | ⟨0, _⟩ => exact k0.trans h0.symm
  | ⟨1, _⟩ => exact k1.trans h1.symm

/-- Window 5's block at an index is its array at the index it stands for. -/
theorem blk_5 (c : Dev nD) (t : Fin cfg0.N) (y : ((cfg0.win 5).xblock (cfg0.grid.coords t)).Idx) (i : S1x7168.Idx)
    (h0 : (i 0).val = (y 0).val) (h1 : (i 1).val = (y 1).val) :
    iblk m c 5 t y = V m c main_v6 i := by
  have k0 : ((((cfg0.win 5).blk t).view.emb y 0 : Fin _) : ℕ) = (y 0).val := by
    blk_simp [e_5] <;> omega
  have k1 : ((((cfg0.win 5).blk t).view.emb y 1 : Fin _) : ℕ) = (y 1).val := by
    blk_simp [e_5] <;> omega
  refine congrArg (V m c main_v6) (?_ : ((cfg0.win 5).blk t).view.emb y = i)
  funext a
  refine Fin.ext ?_
  match a with
  | ⟨0, _⟩ => exact k0.trans h0.symm
  | ⟨1, _⟩ => exact k1.trans h1.symm

end Cert.KernelIdeal.Hand

end
-- ==== Proof.IdealOut.lean ====
/- The three result arrays of the kernel, entry by entry, as the formulas over the arguments. -/
module

public import proofs.«01_k».proof.Proof.IdealPay
public import proofs.«01_k».proof.Proof.IdealEntries
public import Idealize.ShloMosaic.Lib.Pipeline.ArrRel
public import Idealize.ShloMosaic.Lib.Pipeline.Covers
public import Idealize.ShloMosaic.Lib.Pipeline.ValueKit.Geometry
public import Idealize.ShloMosaic.Lib.Tactic
@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

open Cert.Math

variable (m : (ℓ : Loc nD τ sig) → Buf (Elt Ideal) ℓ)

/-- The activation codes, the activation scales, the weight codes, the weight scales and the residual, by row and column. -/
def aX (c : Dev nD) (i : Fin 24576) (k : Fin 8192) : EReal := (V m c main_v3 : Vec Ideal S24576x8192 .fp8e4m3) (ix2 i k)
@[inherit_doc aX] def aS (c : Dev nD) (i : Fin 24576) : EReal := (V m c main_v4 : Vec Ideal S24576x1 .f32) (ix2 i 0)
@[inherit_doc aX] def aW (c : Dev nD) (k : Fin 8192) (q : Fin 7168) : EReal := (V m c main_arg2 : Vec Ideal S8192x7168 .fp8e4m3) (ix2 k q)
@[inherit_doc aX] def aT (c : Dev nD) (a : Fin 64) (b : Fin 56) : EReal := (m ((c : Thread nD τ).loc main_arg3) : Vec Ideal S64x56 .f32) (ix2 a b)
@[inherit_doc aX] def aR (c : Dev nD) (i : Fin 24576) (q : Fin 7168) : EReal := (V m c main_v5 : Vec Ideal S24576x7168 .bf16) (ix2 i q)

/-- The first result's formula at the arrays the region finds. -/
def kh (c : Dev nD) : Fin 24576 → Fin 7168 → EReal := hE (aX m c) (aS m c) (aW m c) (aT m c) (aR m c)

/-- The per-column factors. -/
def kg (c : Dev nD) : Fin 7168 → EReal := fun q => (V m c main_v6 : Vec Ideal S1x7168 .bf16) (ix2 0 q)

/-- One entry of the dequantised weight block. -/
theorem wb_at (c : Dev nD) (t : Fin cfg0.N) (k : Fin 8192) (p : Fin 512) (q : Fin 7168) (hq : q.val = 512 * (t.val % 14) + p.val) :
    (wbOf (iblk m c 2 t) (iblk m c 3 t) (ix2 k p) : EReal) =
      aW m c k q * aT m c ⟨k.val / 128, by omega⟩ ⟨q.val / 128, by omega⟩ := by
  have h2 : iblk m c 2 t (ix2 k p) = (V m c main_arg2 : Vec Ideal S8192x7168 .fp8e4m3) (ix2 k q) := blk_2 m c t (ix2 k p) (ix2 k q) rfl hq
  have h3 : iblk m c 3 t (ix2 ⟨k.val / 128, by omega⟩ p) = (V m c main_v2 : Vec Ideal S64x7168 .bf16) (ix2 ⟨k.val / 128, by omega⟩ q) :=
    blk_3 m c t (ix2 ⟨k.val / 128, by omega⟩ p) (ix2 ⟨k.val / 128, by omega⟩ q) rfl hq
  rw [V_v2] at h3
  exact congrArg₂ (fun a b : EReal => a * b) h2 h3

/-- One entry of an output block. -/
theorem hblk_at (c : Dev nD) (t : Fin cfg0.N) (y : S512x512.Idx) (i : Fin 24576) (q : Fin 7168)
    (hi : i.val = 512 * (t.val / 14) + (y 0).val) (hq : q.val = 512 * (t.val % 14) + (y 1).val) :
    (hblk m c t y : EReal) = kh m c i q := by
  unfold hblk kh hE
  rw [pay95_at]
  have h4 : iblk m c 4 t y = (V m c main_v5 : Vec Ideal S24576x7168 .bf16) (ix2 i q) := blk_4 m c t y (ix2 i q) hi hq
  have h1 : iblk m c 1 t (ix2 (y 0) 0) = (V m c main_v4 : Vec Ideal S24576x1 .f32) (ix2 i 0) := blk_1 m c t (ix2 (y 0) 0) (ix2 i 0) hi rfl
  have hf : (firstPt t).val / 14 = t.val / 14 := by show 14 * (t.val / 14) / 14 = _; omega
  have h0 : ∀ k : Fin 8192, (k0_pay13 (F := Ideal) (iblk m c 0 (firstPt t)) (ix2 (y 0) k) : EReal) =
      (V m c main_v3 : Vec Ideal S24576x8192 .fp8e4m3) (ix2 i k) := fun k =>
    (pay13_at _ _).trans (blk_0 m c (firstPt t) (ix2 (y 0) k) (ix2 i k) (by rw [hf]; exact hi) rfl)
  have hs : (∑ k : Fin 8192, (k0_pay13 (F := Ideal) (iblk m c 0 (firstPt t)) (ix2 (y 0) k) : EReal) * (wbOf (iblk m c 2 t) (iblk m c 3 t) (ix2 k (y 1)) : EReal)) =
      ∑ k : Fin 8192, aX m c i k * (aW m c k q * aT m c ⟨k.val / 128, by omega⟩ ⟨q.val / 128, by omega⟩) :=
    Finset.sum_congr rfl fun k _ => congrArg₂ (fun a b : EReal => a * b) (h0 k) (wb_at m c t k (y 1) q hq)
  exact congrArg₂ (fun a b : EReal => a + b) h4 (congrArg₂ (fun a b : EReal => a * b) hs h1)

/-- One entry of a row block of the first result. -/
theorem hrow_at (c : Dev nD) (t : Fin cfg0.N) (z : S512x7168.Idx) (i : Fin 24576) (q : Fin 7168)
    (hi : i.val = 512 * (t.val / 14) + (z 0).val) (hq : q.val = (z 1).val) : (hrow m c t z : EReal) = kh m c i q := by
  have h : (z 1).val < 7168 := (z 1).isLt
  refine hblk_at m c _ _ i q ?_ ?_
  · show i.val = 512 * ((14 * (t.val / 14) + (z 1).val / 512) / 14) + (z 0).val
    omega
  · show q.val = 512 * ((14 * (t.val / 14) + (z 1).val / 512) % 14) + (z 1).val % 512
    omega

/-- The first result, entry by entry. -/
theorem G6_at (c : Dev nD) (i : S24576x7168.Idx) : ((G6 m c : Vec Ideal S24576x7168 .bf16) i : EReal) = kh m c (i 0) (i 1) := by
  have h0 : (i 0).val < 24576 := (i 0).isLt
  have h1 : (i 1).val < 7168 := (i 1).isLt
  refine hblk_at m c _ _ (i 0) (i 1) ?_ ?_
  · show (i 0).val = 512 * ((14 * ((i 0).val / 512) + (i 1).val / 512) / 14) + (i 0).val % 512
    omega
  · show (i 1).val = 512 * ((14 * ((i 0).val / 512) + (i 1).val / 512) % 14) + (i 1).val % 512
    omega

/-- A chunk of 32 tokens of the row block of token `i` that holds token `i`. -/
def chunk (c : Dev nD) (i : Fin 24576) : Vec Ideal S32x7168 .bf16 :=
  rows32 (hrow m c (lastOf i)) (i.val % 512 / 32) (by omega)

/-- The chunk's row of token `i` is the first result's row. -/
theorem chunk_at (c : Dev nD) (i : Fin 24576) (p : Fin 32) (hp : p.val = i.val % 512 % 32) (q : Fin 7168) :
    (chunk m c i (ix2 p q) : EReal) = kh m c i q := by
  refine hrow_at m c _ _ i q ?_ rfl
  show i.val = 512 * ((14 * (i.val / 512) + 13) / 14) + (32 * (i.val % 512 / 32) + p.val)
  omega

/-- The factors read from the block of gamma. -/
theorem g_at (c : Dev nD) (t : Fin cfg0.N) (q : Fin 7168) : (iblk m c 5 t (ix2 0 q) : EReal) = kg m c q :=
  blk_5 m c t (ix2 0 q) (ix2 0 q) rfl rfl

/-- The second result, entry by entry. -/
theorem G7_at (c : Dev nD) (i : S24576x7168.Idx) : (G7 m c : Vec Ideal S24576x7168 .fp8e4m3) i =
    FloatOps.truncf (F := Ideal) .fp8e4m3 bitsLt_fp8e4m3_f32
      (kcode (F := Ideal) (nrm (kh m c (i 0)) (kg m c) (i 1)) (tokB (nrm (kh m c (i 0)) (kg m c)))) := by
  have h0 : (i 0).val < 24576 := (i 0).isLt
  have e : (G7 m c : Vec Ideal S24576x7168 .fp8e4m3) i =
      codes32 (chunk m c (i 0)) (iblk m c 5 (lastOf (i 0))) (ix2 ⟨(i 0).val % 512 % 32, by omega⟩ (i 1)) := rfl
  rw [e, codes32_at, pay5_at, pay6_at]
  have hH : (fun q => (chunk m c (i 0) (ix2 (⟨(i 0).val % 512 % 32, by omega⟩ : Fin 32) q) : EReal)) = kh m c (i 0) :=
    funext fun q => chunk_at m c (i 0) ⟨(i 0).val % 512 % 32, by omega⟩ rfl q
  have hG : (fun q => (iblk m c 5 (lastOf (i 0)) (ix2 0 q) : EReal)) = kg m c := funext fun q => g_at m c _ q
  exact congrArg₂ (fun H G => FloatOps.truncf (F := Ideal) .fp8e4m3 bitsLt_fp8e4m3_f32
      (kcode (F := Ideal) (nrm H G (i 1)) (tokB (nrm H G)))) hH hG

/-- The third result, entry by entry. -/
theorem G8_at (c : Dev nD) (i : S24576x1.Idx) : (G8 m c : Vec Ideal S24576x1 .f32) i =
    kscale (F := Ideal) (tokB (nrm (kh m c (i 0)) (kg m c))) := by
  have h0 : (i 0).val < 24576 := (i 0).isLt
  have e : (G8 m c : Vec Ideal S24576x1 .f32) i =
      scale32 (chunk m c (i 0)) (iblk m c 5 (lastOf (i 0))) (ix2 ⟨(i 0).val % 512 % 32, by omega⟩ (i 1)) := rfl
  rw [e, scale32_at, pay6_at]
  have hH : (fun q => (chunk m c (i 0) (ix2 (⟨(i 0).val % 512 % 32, by omega⟩ : Fin 32) q) : EReal)) = kh m c (i 0) :=
    funext fun q => chunk_at m c (i 0) ⟨(i 0).val % 512 % 32, by omega⟩ rfl q
  have hG : (fun q => (iblk m c 5 (lastOf (i 0)) (ix2 0 q) : EReal)) = kg m c := funext fun q => g_at m c _ q
  exact congrArg₂ (fun H G => kscale (F := Ideal) (tokB (nrm H G))) hH hG

end Cert.KernelIdeal.Hand

end
-- ==== Proof.RefPay.lean ====
/- The reference's payloads, entry by entry, as the formulas over their operands. -/
module
public import proofs.«01_k».proof.Proof.SpecMath
@[expose] public section
set_option maxRecDepth 16384
noncomputable section
namespace Cert.ReferenceIdeal.Hand
open Idealize.ShloMosaic Cert.ReferenceIdeal.Gen Cert.Math
variable (v0 : Vec Ideal S64x56 .f32) (v2 : Vec Ideal S8192x7168 .fp8e4m3) (v9 : Vec Ideal S24576x8192 .fp8e4m3)
  (v13 : Vec Ideal S24576x1 .f32) (v17 : Vec Ideal S24576x7168 .bf16) (v34 : Vec Ideal S1x7168 .bf16)

/-- The first result's formula at the operands. -/
def rh : Fin 24576 → Fin 7168 → EReal :=
  hE (fun i k => v9 (ix2 i k)) (fun i => v13 (ix2 i 0)) (fun k q => v2 (ix2 k q)) (fun a b => v0 (ix2 a b)) (fun i q => v17 (ix2 i q))

/-- The first result at an index. -/
theorem pay4_at (j : S24576x7168.Idx) : k0_pay4 (F := Ideal) v0 v2 v9 v13 v17 j = rh v0 v2 v9 v13 v17 (j 0) (j 1) := by
  refine Eq.trans (b := v17 j + (∑ x : Fin 8192, v9 (ix2 (j 0) x) * (v2 (ix2 x (j 1)) *
      v0 (ix2 ⟨x.val / 128, by omega⟩ ⟨(j 1).val / 128, by have := (j 1).isLt; simp at this; omega⟩))) * v13 (ix2 (j 0) 0)) ?_ ?_
  · pointwise [k0_pay4]
  · have hj : v17 j = v17 (ix2 (j 0) (j 1)) := congrArg v17 (by funext a; match a with | ⟨0, _⟩ => rfl | ⟨1, _⟩ => rfl)
    rw [hj]
    rfl

/-- The normed entries at an index. -/
theorem pay5_at (j : S24576x7168.Idx) : k0_pay5 (F := Ideal) v0 v2 v9 v13 v17 v34 j =
    nrm (rh v0 v2 v9 v13 v17 (j 0)) (fun q => v34 (ix2 0 q)) (j 1) := by
  refine Eq.trans (b := k0_pay4 (F := Ideal) v0 v2 v9 v13 v17 j *
          Ideal.rsqrt
            (Ideal.div (∑ x, k0_pay4 (F := Ideal) v0 v2 v9 v13 v17 (ix2 (j 0) x) * k0_pay4 (F := Ideal) v0 v2 v9 v13 v17 (ix2 (j 0) x))
                (Ideal.ofBits FTy.f32 1172307968#32) +
              Ideal.ofBits FTy.f32 925353388#32) *
        v34 (ix2 0 (j 1))) ?_ ?_
  · pointwise [k0_pay5]
  · simp only [pay4_at, div_d]
    rfl

/-- The magnitudes at an index. -/
theorem pay6_at (j : S24576x7168.Idx) : k0_pay6 (F := Ideal) v0 v2 v9 v13 v17 v34 j =
    max (nrm (rh v0 v2 v9 v13 v17 (j 0)) (fun q => v34 (ix2 0 q)) (j 1)) (-(nrm (rh v0 v2 v9 v13 v17 (j 0)) (fun q => v34 (ix2 0 q)) (j 1))) := by
  rw [← pay5_at]
  rfl

/-- The scale before rounding of a token. -/
theorem b_at (j : S24576x1.Idx) : bvec (F := Ideal) (k0_pay6 (F := Ideal) v0 v2 v9 v13 v17 v34) j =
    tokB (nrm (rh v0 v2 v9 v13 v17 (j 0)) (fun q => v34 (ix2 0 q))) := by
  rw [bvec_at]
  simp only [pay6_at]
  rfl

end Cert.ReferenceIdeal.Hand
end
-- ==== Proof.RefOut.lean ====
/- The reference's three results, entry by entry, as the formulas over the arguments. -/
module

public import proofs.«01_k».proof.Proof.RefPay
public import Idealize.ShloMosaic.Lib.Pipeline.ValueKit
public import Idealize.ShloMosaic.Lib.Claim
public import Idealize.ShloMosaic.Lib.WholeRead
public import Idealize.ShloMosaic.Lib.StableHlo.ReadAt
@[expose] public section

set_option maxRecDepth 16384

noncomputable section

namespace Cert.ReferenceIdeal.Hand

open Idealize.ShloMosaic Idealize.ShloMosaic.TcCoe Idealize.SL.Sem
open Idealize.ShloMosaic.Pipeline (Dat)
open Cert.ReferenceIdeal.Gen

section Generic
variable {F : FTy → Type} [FloatOps F]
variable (m : (ℓ : Loc nD τ sig) → Buf (Elt F) ℓ)

/-- The region finds the activation codes reshaped. -/
theorem V_v0 (c : Dev nD) : (V m c main_v0 : Vec F S24576x8192 .fp8e4m3) =
    shapeCast S24576x8192 (m ((c : Thread nD τ).loc main_arg0)) shapeCasts_S3x8192x8192_S24576x8192 := by
  unfold V
  after_results
  rfl

/-- The region finds the activation scales reshaped. -/
theorem V_v1 (c : Dev nD) : (V m c main_v1 : Vec F S24576x1 .f32) =
    shapeCast S24576x1 (m ((c : Thread nD τ).loc main_arg1)) shapeCasts_S3x8192x1_S24576x1 := by
  unfold V
  after_results
  rfl

/-- The region finds the residual reshaped. -/
theorem V_v2 (c : Dev nD) : (V m c main_v2 : Vec F S24576x7168 .bf16) =
    shapeCast S24576x7168 (m ((c : Thread nD τ).loc main_arg4)) shapeCasts_S3x8192x7168_S24576x7168 := by
  unfold V
  after_results
  rfl

/-- The region finds gamma reshaped. -/
theorem V_v3 (c : Dev nD) : (V m c main_v3 : Vec F S1x7168 .bf16) =
    shapeCast S1x7168 (m ((c : Thread nD τ).loc main_arg5)) shapeCasts_S7168_S1x7168 := by
  unfold V
  after_results
  rfl

/-- Every window is at its array's only block. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- Window 0's block is its whole array. -/
theorem iblk_0 (c : Dev nD) (t : Fin cfg0.N) : iblk m c 0 t = V m c main_v0 := by
  blk_ext! [iblk, idx t]

/-- Window 1's block is its whole array. -/
theorem iblk_1 (c : Dev nD) (t : Fin cfg0.N) : iblk m c 1 t = V m c main_v1 := by
  blk_ext! [iblk, idx t]

/-- Window 2's block is its whole array. -/
theorem iblk_2 (c : Dev nD) (t : Fin cfg0.N) : iblk m c 2 t = V m c main_arg2 := by
  blk_ext! [iblk, idx t]

/-- Window 3's block is its whole array. -/
theorem iblk_3 (c : Dev nD) (t : Fin cfg0.N) : iblk m c 3 t = V m c main_arg3 := by
  blk_ext! [iblk, idx t]

/-- Window 4's block is its whole array. -/
theorem iblk_4 (c : Dev nD) (t : Fin cfg0.N) : iblk m c 4 t = V m c main_v2 := by
  blk_ext! [iblk, idx t]

/-- Window 5's block is its whole array. -/
theorem iblk_5 (c : Dev nD) (t : Fin cfg0.N) : iblk m c 5 t = V m c main_v3 := by
  blk_ext! [iblk, idx t]

/-- The first result's array at the end. -/
theorem arr_6 (c : Dev nD) : (dats m 0 c).arrAt 6 cfg0.N =
    k0_pay4 (F := F) (V m c main_arg3) (V m c main_arg2) (V m c main_v0) (V m c main_v1) (V m c main_v2) := by
  refine (dats m 0 c).arrAt_eq_of_after_last 6 t0_0 (by decide +kernel) _ fun j => ?_
  blk_simp
  rw [after0_6, iblk_0, iblk_1, iblk_2, iblk_3, iblk_4, iblk_5]
  unfold out0_6
  frame_out

/-- The second result's array at the end. -/
theorem arr_7 (c : Dev nD) : (dats m 0 c).arrAt 7 cfg0.N =
    k0_pay2 (F := F) (k0_pay5 (V m c main_arg3) (V m c main_arg2) (V m c main_v0) (V m c main_v1) (V m c main_v2) (V m c main_v3)) (k0_pay6 (V m c main_arg3) (V m c main_arg2) (V m c main_v0) (V m c main_v1) (V m c main_v2) (V m c main_v3)) := by
  refine (dats m 0 c).arrAt_eq_of_after_last 7 t0_0 (by decide +kernel) _ fun j => ?_
  blk_simp
  rw [after0_7, iblk_0, iblk_1, iblk_2, iblk_3, iblk_4, iblk_5]
  unfold out0_7 k0_pay7
  frame_out

/-- The third result's array at the end. -/
theorem arr_8 (c : Dev nD) : (dats m 0 c).arrAt 8 cfg0.N =
    k0_pay3 (F := F) (k0_pay6 (V m c main_arg3) (V m c main_arg2) (V m c main_v0) (V m c main_v1) (V m c main_v2) (V m c main_v3)) := by
  refine (dats m 0 c).arrAt_eq_of_after_last 8 t0_0 (by decide +kernel) _ fun j => ?_
  blk_simp
  rw [after0_8, iblk_0, iblk_1, iblk_2, iblk_3, iblk_4, iblk_5]
  unfold out0_8 k0_pay7
  frame_out

/-- The run: every execution ends with the three results and the arguments unchanged. -/
theorem results (ρ : Dev nD → PrngReg) : θ_run defs (onTc (τ := τ) (main (F := F))) ⟨m, fun _ => 0, ρ⟩ (fun r => ∀ c : Dev nD,
      r.2.mem ((c.tc : Thread nD τ).loc main_v4_0) = k0_pay4 (F := F) (V m c main_arg3) (V m c main_arg2) (V m c main_v0) (V m c main_v1) (V m c main_v2)
      ∧ r.2.mem ((c.tc : Thread nD τ).loc main_v4_1) = k0_pay2 (F := F) (k0_pay5 (V m c main_arg3) (V m c main_arg2) (V m c main_v0) (V m c main_v1) (V m c main_v2) (V m c main_v3)) (k0_pay6 (V m c main_arg3) (V m c main_arg2) (V m c main_v0) (V m c main_v1) (V m c main_v2) (V m c main_v3))
      ∧ r.2.mem ((c.tc : Thread nD τ).loc main_v4_2) = k0_pay3 (F := F) (k0_pay6 (V m c main_arg3) (V m c main_arg2) (V m c main_v0) (V m c main_v1) (V m c main_v2) (V m c main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  exact ⟨((h.1 c).1 6).trans (arr_6 m c), ((h.1 c).1 7).trans (arr_7 m c), ((h.1 c).1 8).trans (arr_8 m c), h.2 c⟩

end Generic
end Cert.ReferenceIdeal.Hand
end
-- ==== Proof.Algebra.lean ====
/- The algebraic claim: on equal arguments the two programs leave equal results. -/
module

public import proofs.«01_k».proof.Defs
public import proofs.«01_k».proof.Proof.IdealOut
public import proofs.«01_k».proof.Proof.RefOut
public import proofs.«01_k».proof.Proof.Gen.Pre_gamma_finite
@[expose] public section

set_option maxRecDepth 16384

noncomputable section

namespace Cert.Algebra

open Idealize.ShloMosaic Idealize.ShloMosaic.TcCoe Idealize.SL.Sem Cert.Math

/-- Equal argument entries give equal entries of the first result. -/
theorem hE_congr {x x' : Fin 24576 → Fin 8192 → EReal} {xs xs' : Fin 24576 → EReal} {w w' : Fin 8192 → Fin 7168 → EReal}
    {ws ws' : Fin 64 → Fin 56 → EReal} {r r' : Fin 24576 → Fin 7168 → EReal} (h1 : x = x') (h2 : xs = xs') (h3 : w = w') (h4 : ws = ws')
    (h5 : r = r') : hE x xs w ws r = hE x' xs' w' ws' r' := by
  subst h1 h2 h3 h4 h5; rfl

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two memories agree on the arguments of core `c`. -/
def Agree (c : Dev KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The reference's factors of a column. -/
def rg (c : Dev ReferenceIdeal.nD) : Fin 7168 → EReal := fun q => (ReferenceIdeal.Gen.V m' c ReferenceIdeal.main_v3 : Vec Ideal ReferenceIdeal.S1x7168 .bf16) (ix2 0 q)

/-- The reference's first result is the kernel's formula. -/
def rH (c : Dev ReferenceIdeal.nD) : Fin 24576 → Fin 7168 → EReal :=
  ReferenceIdeal.Hand.rh (ReferenceIdeal.Gen.V m' c ReferenceIdeal.main_arg3) (ReferenceIdeal.Gen.V m' c ReferenceIdeal.main_arg2)
    (ReferenceIdeal.Gen.V m' c ReferenceIdeal.main_v0) (ReferenceIdeal.Gen.V m' c ReferenceIdeal.main_v1) (ReferenceIdeal.Gen.V m' c ReferenceIdeal.main_v2)

/-- The two programs' activation codes agree. -/
theorem e0 (c : Dev KernelIdeal.nD) (h : Agree m m' c) :
    (ReferenceIdeal.Gen.V m' c ReferenceIdeal.main_v0 : Vec Ideal ReferenceIdeal.S24576x8192 .fp8e4m3) = KernelIdeal.Gen.V m c KernelIdeal.main_v3 := by
  rw [ReferenceIdeal.Hand.V_v0, h.1]; exact (KernelIdeal.Hand.V_v3 m c).symm

/-- The two programs' activation scales agree. -/
theorem e1 (c : Dev KernelIdeal.nD) (h : Agree m m' c) :
    (ReferenceIdeal.Gen.V m' c ReferenceIdeal.main_v1 : Vec Ideal ReferenceIdeal.S24576x1 .f32) = KernelIdeal.Gen.V m c KernelIdeal.main_v4 := by
  rw [ReferenceIdeal.Hand.V_v1, h.2.1]; exact (KernelIdeal.Hand.V_v4 m c).symm

/-- The two programs' residuals agree. -/
theorem e2 (c : Dev KernelIdeal.nD) (h : Agree m m' c) :
    (ReferenceIdeal.Gen.V m' c ReferenceIdeal.main_v2 : Vec Ideal ReferenceIdeal.S24576x7168 .bf16) = KernelIdeal.Gen.V m c KernelIdeal.main_v5 := by
  rw [ReferenceIdeal.Hand.V_v2, h.2.2.2.2.1]; exact (KernelIdeal.Hand.V_v5 m c).symm

/-- The two programs' weight codes agree. -/
theorem e3 (c : Dev KernelIdeal.nD) (h : Agree m m' c) :
    (ReferenceIdeal.Gen.V m' c ReferenceIdeal.main_arg2 : Vec Ideal ReferenceIdeal.S8192x7168 .fp8e4m3) = KernelIdeal.Gen.V m c KernelIdeal.main_arg2 := by
  rw [ReferenceIdeal.Gen.V_main_arg2, h.2.2.1]; exact (KernelIdeal.Gen.V_main_arg2 m c).symm

/-- The two programs' weight scales agree. -/
theorem e4 (c : Dev KernelIdeal.nD) (h : Agree m m' c) :
    (ReferenceIdeal.Gen.V m' c ReferenceIdeal.main_arg3 : Vec Ideal ReferenceIdeal.S64x56 .f32) = m ((c : Thread KernelIdeal.nD KernelIdeal.τ).loc KernelIdeal.main_arg3) := by
  rw [ReferenceIdeal.Gen.V_main_arg3, h.2.2.2.1]

/-- The two first results' formulas agree. -/
theorem rH_eq (c : Dev KernelIdeal.nD) (h : Agree m m' c) : rH m' c = KernelIdeal.Hand.kh m c := by
  unfold rH ReferenceIdeal.Hand.rh KernelIdeal.Hand.kh
  refine hE_congr ?_ ?_ ?_ ?_ ?_
  · funext i k; exact congrFun (e0 m m' c h) (ix2 i k)
  · funext i; exact congrFun (e1 m m' c h) (ix2 i 0)
  · funext i k; exact congrFun (e3 m m' c h) (ix2 i k)
  · funext i k; exact congrFun (e4 m m' c h) (ix2 i k)
  · funext i k; exact congrFun (e2 m m' c h) (ix2 i k)

/-- The two programs' factors agree. -/
theorem rg_eq (c : Dev KernelIdeal.nD) (h : Agree m m' c) : rg m' c = KernelIdeal.Hand.kg m c := by
  have e : (ReferenceIdeal.Gen.V m' c ReferenceIdeal.main_v3 : Vec Ideal ReferenceIdeal.S1x7168 .bf16) = KernelIdeal.Gen.V m c KernelIdeal.main_v6 := by
    rw [ReferenceIdeal.Hand.V_v3, h.2.2.2.2.2]; exact (KernelIdeal.Hand.V_v6 m c).symm
  exact funext fun q => congrFun e (ix2 0 q)

/-- A true comparison "at most" is an inequality. -/
theorem le_of_ole (a b : EReal) (h : FloatOps.cmpf (F := Ideal) (φ := .bf16) .ole a b = 1#1) : a ≤ b := by
  by_contra hn
  simp [Ideal.cmpf_def, Ideal.cmp, hn] at h

/-- A true comparison "at least" is an inequality. -/
theorem le_of_oge (a b : EReal) (h : FloatOps.cmpf (F := Ideal) (φ := .bf16) .oge a b = 1#1) : b ≤ a := by
  by_contra hn
  simp [Ideal.cmpf_def, Ideal.cmp, hn] at h

/-- A number between the least and the largest finite bf16 is a real of magnitude at most `2^128`. -/
theorem between (x : EReal) (h1 : FloatOps.cmpf (F := Ideal) (φ := .bf16) .ole x (Ideal.ofBits .bf16 0x7F7F#16) = 1#1)
    (h2 : FloatOps.cmpf (F := Ideal) (φ := .bf16) .oge x (Ideal.ofBits .bf16 0xFF7F#16) = 1#1) : ∃ g : ℝ, x = g ∧ |g| ≤ 2 ^ 128 := by
  rw [hi_word] at h1
  rw [lo_word] at h2
  have h1' : x ≤ ((255 * 2 ^ (120 : ℤ) : ℝ) : EReal) := le_of_ole _ _ h1
  have h2' : ((-(255 * 2 ^ (120 : ℤ)) : ℝ) : EReal) ≤ x := le_of_oge _ _ h2
  have ht : x ≠ ⊤ := (h1'.trans_lt (EReal.coe_lt_top _)).ne
  have hb : x ≠ ⊥ := ((EReal.bot_lt_coe _).trans_le h2').ne'
  lift x to ℝ using ⟨ht, hb⟩
  have a1 := EReal.coe_le_coe_iff.1 h1'
  have a2 := EReal.coe_le_coe_iff.1 h2'
  refine ⟨x, rfl, abs_le.2 ⟨?_, ?_⟩⟩
  · refine le_trans ?_ a2; norm_num
  · refine a1.trans ?_; norm_num

/-- Under the precondition every factor is a real of magnitude at most `2^128`. -/
theorem kg_bound (hp : Cert.Pre_KernelIdeal_gamma_finite (hPre_gamma_finite := Cert.Pre_gamma_finite.Gen.facts) m) (c : Dev KernelIdeal.nD) (q : Fin 7168) :
    ∃ g : ℝ, KernelIdeal.Hand.kg m c q = g ∧ |g| ≤ 2 ^ 128 := by
  have e := congrFun (KernelIdeal.Hand.V_v6 m c) (ix2 0 q)
  obtain ⟨j, hj⟩ : ∃ j : KernelIdeal.S7168.Idx, shapeCast KernelIdeal.S1x7168 (m ((c : Thread KernelIdeal.nD KernelIdeal.τ).loc KernelIdeal.main_arg5) : Vec Ideal KernelIdeal.S7168 .bf16)
      KernelIdeal.Gen.facts.shapeCasts_S7168_S1x7168 (ix2 0 q) = (m ((c : Thread KernelIdeal.nD KernelIdeal.τ).loc KernelIdeal.main_arg5) : Vec Ideal KernelIdeal.S7168 .bf16) j := ⟨_, rfl⟩
  have b := between ((m ((c : Thread KernelIdeal.nD KernelIdeal.τ).loc KernelIdeal.main_arg5) : Vec Ideal KernelIdeal.S7168 .bf16) j)
    (congrFun (hp c).1 j) (congrFun (hp c).2 j)
  obtain ⟨g, hg, hb⟩ := b
  exact ⟨g, e.trans (hj.trans hg), hb⟩

variable (hp : Cert.Pre_KernelIdeal_gamma_finite (hPre_gamma_finite := Cert.Pre_gamma_finite.Gen.facts) m)

/-- The first results agree. -/
theorem out0 (c : Dev KernelIdeal.nD) (h : Agree m m' c) (j : ReferenceIdeal.S24576x7168.Idx) :
    ReferenceIdeal.Gen.k0_pay4 (F := Ideal) (ReferenceIdeal.Gen.V m' c ReferenceIdeal.main_arg3) (ReferenceIdeal.Gen.V m' c ReferenceIdeal.main_arg2) (ReferenceIdeal.Gen.V m' c ReferenceIdeal.main_v0) (ReferenceIdeal.Gen.V m' c ReferenceIdeal.main_v1) (ReferenceIdeal.Gen.V m' c ReferenceIdeal.main_v2) j = (KernelIdeal.Hand.G6 m c : Vec Ideal KernelIdeal.S24576x7168 .bf16) j := by
  refine (ReferenceIdeal.Hand.pay4_at _ _ _ _ _ j).trans ?_
  refine Eq.trans (congrFun (congrFun (rH_eq m m' c h) (j 0)) (j 1)) (KernelIdeal.Hand.G6_at m c j).symm

include hp in
/-- The second results agree. -/
theorem out1 (c : Dev KernelIdeal.nD) (h : Agree m m' c) (j : ReferenceIdeal.S24576x7168.Idx) :
    ReferenceIdeal.Gen.k0_pay2 (F := Ideal) (ReferenceIdeal.Gen.k0_pay5 (ReferenceIdeal.Gen.V m' c ReferenceIdeal.main_arg3) (ReferenceIdeal.Gen.V m' c ReferenceIdeal.main_arg2) (ReferenceIdeal.Gen.V m' c ReferenceIdeal.main_v0) (ReferenceIdeal.Gen.V m' c ReferenceIdeal.main_v1) (ReferenceIdeal.Gen.V m' c ReferenceIdeal.main_v2) (ReferenceIdeal.Gen.V m' c ReferenceIdeal.main_v3))
      (ReferenceIdeal.Gen.k0_pay6 (ReferenceIdeal.Gen.V m' c ReferenceIdeal.main_arg3) (ReferenceIdeal.Gen.V m' c ReferenceIdeal.main_arg2) (ReferenceIdeal.Gen.V m' c ReferenceIdeal.main_v0) (ReferenceIdeal.Gen.V m' c ReferenceIdeal.main_v1) (ReferenceIdeal.Gen.V m' c ReferenceIdeal.main_v2) (ReferenceIdeal.Gen.V m' c ReferenceIdeal.main_v3)) j =
      (KernelIdeal.Hand.G7 m c : Vec Ideal KernelIdeal.S24576x7168 .fp8e4m3) j := by
  rw [ReferenceIdeal.Hand.pay2_at, ReferenceIdeal.Hand.pay1_at, ReferenceIdeal.Hand.b_at, ReferenceIdeal.Hand.pay5_at]
  refine Eq.trans ?_ (KernelIdeal.Hand.G7_at m c j).symm
  have hr := tokB_range (KernelIdeal.Hand.kh m c (j 0)) (KernelIdeal.Hand.kg m c) (kg_bound m hp c)
  rw [kcode_eq _ _ hr.1 hr.2, ← rH_eq m m' c h, ← rg_eq m m' c h]
  rfl

include hp in
/-- The third results agree. -/
theorem out2 (c : Dev KernelIdeal.nD) (h : Agree m m' c) (j : ReferenceIdeal.S24576x1.Idx) :
    ReferenceIdeal.Gen.k0_pay3 (F := Ideal) (ReferenceIdeal.Gen.k0_pay6 (ReferenceIdeal.Gen.V m' c ReferenceIdeal.main_arg3) (ReferenceIdeal.Gen.V m' c ReferenceIdeal.main_arg2) (ReferenceIdeal.Gen.V m' c ReferenceIdeal.main_v0) (ReferenceIdeal.Gen.V m' c ReferenceIdeal.main_v1) (ReferenceIdeal.Gen.V m' c ReferenceIdeal.main_v2) (ReferenceIdeal.Gen.V m' c ReferenceIdeal.main_v3)) j =
      (KernelIdeal.Hand.G8 m c : Vec Ideal KernelIdeal.S24576x1 .f32) j := by
  rw [ReferenceIdeal.Hand.pay3_at, ReferenceIdeal.Hand.pay1_at, ReferenceIdeal.Hand.b_at]
  refine Eq.trans ?_ (KernelIdeal.Hand.G8_at m c j).symm
  have hr := tokB_range (KernelIdeal.Hand.kh m c (j 0)) (KernelIdeal.Hand.kg m c) (kg_bound m hp c)
  rw [kscale_eq _ hr.1 hr.2, ← rH_eq m m' c h, ← rg_eq m m' c h]
  rfl

/-- The algebraic claim. -/
theorem algebraic : Cert.algebraic_KernelIdeal_ReferenceIdeal_pre_gamma_finite (hKernelIdeal := Cert.KernelIdeal.Gen.facts)
    (hReferenceIdeal := Cert.ReferenceIdeal.Gen.facts) (hPre_gamma_finite := Cert.Pre_gamma_finite.Gen.facts) := by
  intro m g m' g' hp ha
  refine ⟨fun c => KernelIdeal.Hand.G6 m c, fun c => KernelIdeal.Hand.G7 m c, fun c => KernelIdeal.Hand.G8 m c, KernelIdeal.Hand.results m g, ?_⟩
  refine (θ_run _ _ _).mono (fun r h c => ?_) (ReferenceIdeal.Hand.results m' g')
  obtain ⟨h0, h1, h2, h3⟩ := h c
  exact ⟨h0.trans (funext fun j => out0 m m' c (ha c) j), h1.trans (funext fun j => out1 m m' hp c (ha c) j),
    h2.trans (funext fun j => out2 m m' hp c (ha c) j), h3⟩

end Cert.Algebra

end
-- ==== Proof.lean ====
module

public import proofs.«01_k».proof.Defs
public import proofs.«01_k».proof.Proof.BitsFrame
public import proofs.«01_k».proof.Proof.IdealFrame
public import proofs.«01_k».proof.Proof.Gen.ReferenceIdeal.Frame
public import proofs.«01_k».proof.Proof.Gen.Pre_gamma_finite
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- The kernel ends with its arguments unchanged. -/
theorem frame_kernel : Cert.quiescent_Kernel (hKernel := Cert.Kernel.Gen.facts) := fun m g _ => Cert.Kernel.Hand.frame m g

/-- The idealized kernel ends with its arguments unchanged. -/
theorem frame_kernelIdeal : Cert.quiescent_KernelIdeal (hKernelIdeal := Cert.KernelIdeal.Gen.facts) := fun m g _ => Cert.KernelIdeal.Hand.frame m g

/-- The idealized reference ends with its arguments unchanged. -/
theorem frame_referenceIdeal : Cert.quiescent_ReferenceIdeal (hReferenceIdeal := Cert.ReferenceIdeal.Gen.facts) := fun m g _ => Cert.ReferenceIdeal.Gen.frame m g

/-- The same under the precondition. -/
theorem frame_kernelIdeal_pre : Cert.quiescent_KernelIdeal_pre_gamma_finite (hKernelIdeal := Cert.KernelIdeal.Gen.facts)
    (hPre_gamma_finite := Cert.Pre_gamma_finite.Gen.facts) := fun m g _ => Cert.KernelIdeal.Hand.frame m g

/-- The same under the precondition. -/
theorem frame_referenceIdeal_pre : Cert.quiescent_ReferenceIdeal_pre_gamma_finite (hReferenceIdeal := Cert.ReferenceIdeal.Gen.facts)
    (hPre_gamma_finite := Cert.Pre_gamma_finite.Gen.facts) := fun m g _ => Cert.ReferenceIdeal.Gen.frame m g

/-- The one constant the idealization names is the constant nearest to 1/7168. -/
theorem preserves : Cert.preserves_Kernel_KernelIdeal :=
  IdealRules.named_const.statement Cert.KernelIdeal.κ "inv_d" .f32 0x39124925#32 ((1 / 7168 : ℝ) : EReal) rfl

/-- The certificate's claims. -/
theorem claim : Cert.Claim := ⟨Cert.Kernel.Gen.facts, Cert.KernelIdeal.Gen.facts, Cert.ReferenceIdeal.Gen.facts, Cert.Pre_gamma_finite.Gen.facts,
  frame_kernel, frame_kernelIdeal, frame_kernelIdeal_pre, frame_referenceIdeal, frame_referenceIdeal_pre, preserves, Cert.Algebra.algebraic⟩

end Cert.Proof

end
